-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v232) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x7168 : Shape := ⟨3, ![192, 1, 7168]⟩
abbrev S3584x10240 : Shape := ⟨2, ![3584, 10240]⟩
abbrev S112x10240 : Shape := ⟨2, ![112, 10240]⟩
abbrev S112x40 : Shape := ⟨2, ![112, 40]⟩
abbrev S_ : Shape := ⟨0, ![]⟩
abbrev S2x32x128 : Shape := ⟨3, ![2, 32, 128]⟩
abbrev S192x112x16x4 : Shape := ⟨4, ![192, 112, 16, 4]⟩
abbrev S192x112x4x16 : Shape := ⟨4, ![192, 112, 4, 16]⟩
abbrev S192x7168 : Shape := ⟨2, ![192, 7168]⟩
abbrev S1x1 : Shape := ⟨2, ![1, 1]⟩
abbrev S192x10240 : Shape := ⟨2, ![192, 10240]⟩
abbrev S3584x512 : Shape := ⟨2, ![3584, 512]⟩
abbrev S112x512 : Shape := ⟨2, ![112, 512]⟩
abbrev S192x512 : Shape := ⟨2, ![192, 512]⟩
abbrev S4x112x128 : Shape := ⟨3, ![4, 112, 128]⟩
abbrev S1x32x128 : Shape := ⟨3, ![1, 32, 128]⟩
abbrev S32x128 : Shape := ⟨2, ![32, 128]⟩
abbrev S8x128 : Shape := ⟨2, ![8, 128]⟩
abbrev S112 : Shape := ⟨1, ![112]⟩
abbrev S112x1 : Shape := ⟨2, ![112, 1]⟩
abbrev S112x256 : Shape := ⟨2, ![112, 256]⟩
abbrev S112x128 : Shape := ⟨2, ![112, 128]⟩
abbrev S1x112x128 : Shape := ⟨3, ![1, 112, 128]⟩
abbrev S1x8x128 : Shape := ⟨3, ![1, 8, 128]⟩
abbrev S16x128 : Shape := ⟨2, ![16, 128]⟩
abbrev S32x128x1 : Shape := ⟨3, ![32, 128, 1]⟩
abbrev S256x128 : Shape := ⟨2, ![256, 128]⟩
abbrev S256x512 : Shape := ⟨2, ![256, 512]⟩
abbrev S192x256 : Shape := ⟨2, ![192, 256]⟩
abbrev S192x1x10240 : Shape := ⟨3, ![192, 1, 10240]⟩

abbrev nBuf : Space → Nat
  | .hbm => 12
  | .vmem => 10
  | .smem => 1
  | _ => 0

abbrev bufTy : (tb : Table) → Fin (tcTables nBuf tb) → BufTy
  | .hbm, ⟨0, _⟩ => ⟨S192x1x7168, .bf16⟩
  | .hbm, ⟨1, _⟩ => ⟨S3584x10240, .i8⟩
  | .hbm, ⟨2, _⟩ => ⟨S112x10240, .i8⟩
  | .hbm, ⟨3, _⟩ => ⟨S112x40, .f32⟩
  | .hbm, ⟨4, _⟩ => ⟨S_, .f32⟩
  | .hbm, ⟨5, _⟩ => ⟨S2x32x128, .i8⟩
  | .hbm, ⟨6, _⟩ => ⟨S192x112x16x4, .bf16⟩
  | .hbm, ⟨7, _⟩ => ⟨S192x112x4x16, .bf16⟩
  | .hbm, ⟨8, _⟩ => ⟨S192x7168, .bf16⟩
  | .hbm, ⟨9, _⟩ => ⟨S1x1, .f32⟩
  | .hbm, ⟨10, _⟩ => ⟨S192x10240, .bf16⟩
  | .hbm, ⟨11, _⟩ => ⟨S192x1x10240, .bf16⟩
  | .local _ .vmem, ⟨0, _⟩ => ⟨S192x7168, .bf16⟩
  | .local _ .vmem, ⟨1, _⟩ => ⟨S3584x512, .i8⟩
  | .local _ .vmem, ⟨2, _⟩ => ⟨S3584x512, .i8⟩
  | .local _ .vmem, ⟨3, _⟩ => ⟨S112x512, .i8⟩
  | .local _ .vmem, ⟨4, _⟩ => ⟨S112x512, .i8⟩
  | .local _ .vmem, ⟨5, _⟩ => ⟨S112x40, .f32⟩
  | .local _ .vmem, ⟨6, _⟩ => ⟨S2x32x128, .i8⟩
  | .local _ .vmem, ⟨7, _⟩ => ⟨S192x512, .bf16⟩
  | .local _ .vmem, ⟨8, _⟩ => ⟨S192x512, .bf16⟩
  | .local _ .vmem, ⟨9, _⟩ => ⟨S4x112x128, .f32⟩
  | .local _ .smem, ⟨0, _⟩ => ⟨S1x1, .f32⟩
  | _, _ => ⟨S192x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_stg4_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3584x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S112x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S112x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x32x128 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S192x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S192x1x7168 : Shape := ⟨3, ![192, 1, 7168]⟩
abbrev S3584x10240 : Shape := ⟨2, ![3584, 10240]⟩
abbrev S112x10240 : Shape := ⟨2, ![112, 10240]⟩
abbrev S112x40 : Shape := ⟨2, ![112, 40]⟩
abbrev S_ : Shape := ⟨0, ![]⟩
abbrev S112x40x256 : Shape := ⟨3, ![112, 40, 256]⟩
abbrev S192x3584x2 : Shape := ⟨3, ![192, 3584, 2]⟩
abbrev S192x3584x1 : Shape := ⟨3, ![192, 3584, 1]⟩
abbrev S192x3584 : Shape := ⟨2, ![192, 3584]⟩
abbrev S3584x5120 : Shape := ⟨2, ![3584, 5120]⟩
abbrev S112x5120 : Shape := ⟨2, ![112, 5120]⟩
abbrev S112x32x5120 : Shape := ⟨3, ![112, 32, 5120]⟩
abbrev S112x1x5120 : Shape := ⟨3, ![112, 1, 5120]⟩
abbrev S192x5120 : Shape := ⟨2, ![192, 5120]⟩
abbrev S192x10240 : Shape := ⟨2, ![192, 10240]⟩
abbrev S192x1x10240 : Shape := ⟨3, ![192, 1, 10240]⟩

abbrev nBuf : Space → Nat
  | .hbm => 420
  | .vmem => 0
  | .smem => 0
  | _ => 0

abbrev hbmTy0_0 (i : Nat) : BufTy := match i % 128 with
  | 0 => ⟨S192x1x7168, .bf16⟩
  | 1 => ⟨S3584x10240, .i8⟩
  | 2 => ⟨S112x10240, .i8⟩
  | 3 => ⟨S112x40, .f32⟩
  | 4 => ⟨S_, .f32⟩
  | 5 => ⟨S112x40x256, .f32⟩
  | 6 => ⟨S112x10240, .f32⟩
  | 7 => ⟨S112x10240, .i32⟩
  | 8 => ⟨S112x10240, .f32⟩
  | 9 => ⟨S112x10240, .f32⟩
  | 10 => ⟨S112x10240, .f32⟩
  | 11 => ⟨S112x10240, .f32⟩
  | 12 => ⟨S112x10240, .bf16⟩
  | 13 => ⟨S192x3584x2, .bf16⟩
  | 14 => ⟨S192x3584x1, .bf16⟩
  | 15 => ⟨S192x3584, .bf16⟩
  | 16 => ⟨S192x3584x1, .bf16⟩
  | 17 => ⟨S192x3584, .bf16⟩
  | 18 => ⟨S3584x5120, .i8⟩
  | 19 => ⟨S3584x5120, .i32⟩
  | 20 => ⟨S112x5120, .bf16⟩
  | 21 => ⟨S_, .i32⟩
  | 22 => ⟨S3584x5120, .i32⟩
  | 23 => ⟨S3584x5120, .i32⟩
  | 24 => ⟨S_, .i32⟩
  | 25 => ⟨S3584x5120, .i32⟩
  | 26 => ⟨S3584x5120, .i32⟩
  | 27 => ⟨S_, .i32⟩
  | 28 => ⟨S3584x5120, .i32⟩
  | 29 => ⟨S3584x5120, .i32⟩
  | 30 => ⟨S_, .i32⟩
  | 31 => ⟨S3584x5120, .i32⟩
  | 32 => ⟨S3584x5120, .i32⟩
  | 33 => ⟨S_, .i32⟩
  | 34 => ⟨S3584x5120, .i32⟩
  | 35 => ⟨S3584x5120, .i1⟩
  | 36 => ⟨S3584x5120, .i1⟩
  | 37 => ⟨S_, .bf16⟩
  | 38 => ⟨S_, .bf16⟩
  | 39 => ⟨S3584x5120, .bf16⟩
  | 40 => ⟨S3584x5120, .bf16⟩
  | 41 => ⟨S3584x5120, .bf16⟩
  | 42 => ⟨S_, .bf16⟩
  | 43 => ⟨S_, .bf16⟩
  | 44 => ⟨S3584x5120, .bf16⟩
  | 45 => ⟨S3584x5120, .bf16⟩
  | 46 => ⟨S3584x5120, .bf16⟩
  | 47 => ⟨S_, .bf16⟩
  | 48 => ⟨S_, .bf16⟩
  | 49 => ⟨S3584x5120, .bf16⟩
  | 50 => ⟨S3584x5120, .bf16⟩
  | 51 => ⟨S3584x5120, .bf16⟩
  | 52 => ⟨S_, .bf16⟩
  | 53 => ⟨S_, .bf16⟩
  | 54 => ⟨S3584x5120, .bf16⟩
  | 55 => ⟨S3584x5120, .bf16⟩
  | 56 => ⟨S3584x5120, .bf16⟩
  | 57 => ⟨S_, .bf16⟩
  | 58 => ⟨S_, .bf16⟩
  | 59 => ⟨S3584x5120, .bf16⟩
  | 60 => ⟨S3584x5120, .bf16⟩
  | 61 => ⟨S3584x5120, .bf16⟩
  | 62 => ⟨S_, .bf16⟩
  | 63 => ⟨S_, .bf16⟩
  | 64 => ⟨S3584x5120, .bf16⟩
  | 65 => ⟨S3584x5120, .bf16⟩
  | 66 => ⟨S3584x5120, .bf16⟩
  | 67 => ⟨S_, .bf16⟩
  | 68 => ⟨S_, .bf16⟩
  | 69 => ⟨S3584x5120, .bf16⟩
  | 70 => ⟨S3584x5120, .bf16⟩
  | 71 => ⟨S3584x5120, .bf16⟩
  | 72 => ⟨S_, .bf16⟩
  | 73 => ⟨S_, .bf16⟩
  | 74 => ⟨S3584x5120, .bf16⟩
  | 75 => ⟨S3584x5120, .bf16⟩
  | 76 => ⟨S3584x5120, .bf16⟩
  | 77 => ⟨S_, .i32⟩
  | 78 => ⟨S3584x5120, .i32⟩
  | 79 => ⟨S3584x5120, .i32⟩
  | 80 => ⟨S_, .i32⟩
  | 81 => ⟨S3584x5120, .i32⟩
  | 82 => ⟨S3584x5120, .i32⟩
  | 83 => ⟨S_, .i32⟩
  | 84 => ⟨S3584x5120, .i32⟩
  | 85 => ⟨S3584x5120, .i1⟩
  | 86 => ⟨S3584x5120, .i1⟩
  | 87 => ⟨S3584x5120, .bf16⟩
  | 88 => ⟨S3584x5120, .bf16⟩
  | 89 => ⟨S3584x5120, .bf16⟩
  | 90 => ⟨S3584x5120, .bf16⟩
  | 91 => ⟨S_, .i32⟩
  | 92 => ⟨S3584x5120, .i32⟩
  | 93 => ⟨S3584x5120, .i32⟩
  | 94 => ⟨S_, .i32⟩
  | 95 => ⟨S3584x5120, .i32⟩
  | 96 => ⟨S3584x5120, .i32⟩
  | 97 => ⟨S_, .i32⟩
  | 98 => ⟨S3584x5120, .i32⟩
  | 99 => ⟨S3584x5120, .i1⟩
  | 100 => ⟨S3584x5120, .i1⟩
  | 101 => ⟨S3584x5120, .bf16⟩
  | 102 => ⟨S3584x5120, .bf16⟩
  | 103 => ⟨S_, .i32⟩
  | 104 => ⟨S3584x5120, .i32⟩
  | 105 => ⟨S3584x5120, .i32⟩
  | 106 => ⟨S_, .i32⟩
  | 107 => ⟨S3584x5120, .i32⟩
  | 108 => ⟨S3584x5120, .i32⟩
  | 109 => ⟨S_, .i32⟩
  | 110 => ⟨S3584x5120, .i32⟩
  | 111 => ⟨S3584x5120, .i1⟩
  | 112 => ⟨S3584x5120, .i1⟩
  | 113 => ⟨S3584x5120, .bf16⟩
  | 114 => ⟨S112x32x5120, .bf16⟩
  | 115 => ⟨S112x1x5120, .bf16⟩
  | 116 => ⟨S112x32x5120, .bf16⟩
  | 117 => ⟨S112x32x5120, .bf16⟩
  | 118 => ⟨S3584x5120, .bf16⟩
  | 119 => ⟨S_, .i32⟩
  | 120 => ⟨S3584x5120, .i32⟩
  | 121 => ⟨S3584x5120, .i32⟩
  | 122 => ⟨S_, .i32⟩
  | 123 => ⟨S3584x5120, .i32⟩
  | 124 => ⟨S3584x5120, .i32⟩
  | 125 => ⟨S_, .i32⟩
  | 126 => ⟨S3584x5120, .i32⟩
  | 127 => ⟨S3584x5120, .i32⟩
  | _ => ⟨S192x1x7168, .bf16⟩

abbrev hbmTy0_1 (i : Nat) : BufTy := match i % 128 with
  | 0 => ⟨S_, .i32⟩
  | 1 => ⟨S3584x5120, .i32⟩
  | 2 => ⟨S3584x5120, .i1⟩
  | 3 => ⟨S3584x5120, .i1⟩
  | 4 => ⟨S_, .bf16⟩
  | 5 => ⟨S_, .bf16⟩
  | 6 => ⟨S3584x5120, .bf16⟩
  | 7 => ⟨S3584x5120, .bf16⟩
  | 8 => ⟨S3584x5120, .bf16⟩
  | 9 => ⟨S_, .bf16⟩
  | 10 => ⟨S_, .bf16⟩
  | 11 => ⟨S3584x5120, .bf16⟩
  | 12 => ⟨S3584x5120, .bf16⟩
  | 13 => ⟨S3584x5120, .bf16⟩
  | 14 => ⟨S_, .bf16⟩
  | 15 => ⟨S_, .bf16⟩
  | 16 => ⟨S3584x5120, .bf16⟩
  | 17 => ⟨S3584x5120, .bf16⟩
  | 18 => ⟨S3584x5120, .bf16⟩
  | 19 => ⟨S_, .bf16⟩
  | 20 => ⟨S_, .bf16⟩
  | 21 => ⟨S3584x5120, .bf16⟩
  | 22 => ⟨S3584x5120, .bf16⟩
  | 23 => ⟨S3584x5120, .bf16⟩
  | 24 => ⟨S_, .bf16⟩
  | 25 => ⟨S_, .bf16⟩
  | 26 => ⟨S3584x5120, .bf16⟩
  | 27 => ⟨S3584x5120, .bf16⟩
  | 28 => ⟨S3584x5120, .bf16⟩
  | 29 => ⟨S_, .bf16⟩
  | 30 => ⟨S_, .bf16⟩
  | 31 => ⟨S3584x5120, .bf16⟩
  | 32 => ⟨S3584x5120, .bf16⟩
  | 33 => ⟨S3584x5120, .bf16⟩
  | 34 => ⟨S_, .bf16⟩
  | 35 => ⟨S_, .bf16⟩
  | 36 => ⟨S3584x5120, .bf16⟩
  | 37 => ⟨S3584x5120, .bf16⟩
  | 38 => ⟨S3584x5120, .bf16⟩
  | 39 => ⟨S_, .bf16⟩
  | 40 => ⟨S_, .bf16⟩
  | 41 => ⟨S3584x5120, .bf16⟩
  | 42 => ⟨S3584x5120, .bf16⟩
  | 43 => ⟨S3584x5120, .bf16⟩
  | 44 => ⟨S_, .i32⟩
  | 45 => ⟨S3584x5120, .i32⟩
  | 46 => ⟨S3584x5120, .i32⟩
  | 47 => ⟨S_, .i32⟩
  | 48 => ⟨S3584x5120, .i32⟩
  | 49 => ⟨S3584x5120, .i32⟩
  | 50 => ⟨S_, .i32⟩
  | 51 => ⟨S3584x5120, .i32⟩
  | 52 => ⟨S3584x5120, .i1⟩
  | 53 => ⟨S3584x5120, .i1⟩
  | 54 => ⟨S3584x5120, .bf16⟩
  | 55 => ⟨S3584x5120, .bf16⟩
  | 56 => ⟨S3584x5120, .bf16⟩
  | 57 => ⟨S3584x5120, .bf16⟩
  | 58 => ⟨S_, .i32⟩
  | 59 => ⟨S3584x5120, .i32⟩
  | 60 => ⟨S3584x5120, .i32⟩
  | 61 => ⟨S_, .i32⟩
  | 62 => ⟨S3584x5120, .i32⟩
  | 63 => ⟨S3584x5120, .i32⟩
  | 64 => ⟨S_, .i32⟩
  | 65 => ⟨S3584x5120, .i32⟩
  | 66 => ⟨S3584x5120, .i1⟩
  | 67 => ⟨S3584x5120, .i1⟩
  | 68 => ⟨S3584x5120, .bf16⟩
  | 69 => ⟨S3584x5120, .bf16⟩
  | 70 => ⟨S_, .i32⟩
  | 71 => ⟨S3584x5120, .i32⟩
  | 72 => ⟨S3584x5120, .i32⟩
  | 73 => ⟨S_, .i32⟩
  | 74 => ⟨S3584x5120, .i32⟩
  | 75 => ⟨S3584x5120, .i32⟩
  | 76 => ⟨S_, .i32⟩
  | 77 => ⟨S3584x5120, .i32⟩
  | 78 => ⟨S3584x5120, .i1⟩
  | 79 => ⟨S3584x5120, .i1⟩
  | 80 => ⟨S3584x5120, .bf16⟩
  | 81 => ⟨S112x32x5120, .bf16⟩
  | 82 => ⟨S112x1x5120, .bf16⟩
  | 83 => ⟨S112x32x5120, .bf16⟩
  | 84 => ⟨S112x32x5120, .bf16⟩
  | 85 => ⟨S3584x5120, .bf16⟩
  | 86 => ⟨S192x5120, .f32⟩
  | 87 => ⟨S192x5120, .f32⟩
  | 88 => ⟨S192x5120, .f32⟩
  | 89 => ⟨S192x5120, .bf16⟩
  | 90 => ⟨S3584x5120, .i8⟩
  | 91 => ⟨S3584x5120, .i32⟩
  | 92 => ⟨S112x5120, .bf16⟩
  | 93 => ⟨S_, .i32⟩
  | 94 => ⟨S3584x5120, .i32⟩
  | 95 => ⟨S3584x5120, .i32⟩
  | 96 => ⟨S_, .i32⟩
  | 97 => ⟨S3584x5120, .i32⟩
  | 98 => ⟨S3584x5120, .i32⟩
  | 99 => ⟨S_, .i32⟩
  | 100 => ⟨S3584x5120, .i32⟩
  | 101 => ⟨S3584x5120, .i32⟩
  | 102 => ⟨S_, .i32⟩
  | 103 => ⟨S3584x5120, .i32⟩
  | 104 => ⟨S3584x5120, .i32⟩
  | 105 => ⟨S_, .i32⟩
  | 106 => ⟨S3584x5120, .i32⟩
  | 107 => ⟨S3584x5120, .i1⟩
  | 108 => ⟨S3584x5120, .i1⟩
  | 109 => ⟨S_, .bf16⟩
  | 110 => ⟨S_, .bf16⟩
  | 111 => ⟨S3584x5120, .bf16⟩
  | 112 => ⟨S3584x5120, .bf16⟩
  | 113 => ⟨S3584x5120, .bf16⟩
  | 114 => ⟨S_, .bf16⟩
  | 115 => ⟨S_, .bf16⟩
  | 116 => ⟨S3584x5120, .bf16⟩
  | 117 => ⟨S3584x5120, .bf16⟩
  | 118 => ⟨S3584x5120, .bf16⟩
  | 119 => ⟨S_, .bf16⟩
  | 120 => ⟨S_, .bf16⟩
  | 121 => ⟨S3584x5120, .bf16⟩
  | 122 => ⟨S3584x5120, .bf16⟩
  | 123 => ⟨S3584x5120, .bf16⟩
  | 124 => ⟨S_, .bf16⟩
  | 125 => ⟨S_, .bf16⟩
  | 126 => ⟨S3584x5120, .bf16⟩
  | 127 => ⟨S3584x5120, .bf16⟩
  | _ => ⟨S192x1x7168, .bf16⟩

abbrev hbmTy0_2 (i : Nat) : BufTy := match i % 128 with
  | 0 => ⟨S3584x5120, .bf16⟩
  | 1 => ⟨S_, .bf16⟩
  | 2 => ⟨S_, .bf16⟩
  | 3 => ⟨S3584x5120, .bf16⟩
  | 4 => ⟨S3584x5120, .bf16⟩
  | 5 => ⟨S3584x5120, .bf16⟩
  | 6 => ⟨S_, .bf16⟩
  | 7 => ⟨S_, .bf16⟩
  | 8 => ⟨S3584x5120, .bf16⟩
  | 9 => ⟨S3584x5120, .bf16⟩
  | 10 => ⟨S3584x5120, .bf16⟩
  | 11 => ⟨S_, .bf16⟩
  | 12 => ⟨S_, .bf16⟩
  | 13 => ⟨S3584x5120, .bf16⟩
  | 14 => ⟨S3584x5120, .bf16⟩
  | 15 => ⟨S3584x5120, .bf16⟩
  | 16 => ⟨S_, .bf16⟩
  | 17 => ⟨S_, .bf16⟩
  | 18 => ⟨S3584x5120, .bf16⟩
  | 19 => ⟨S3584x5120, .bf16⟩
  | 20 => ⟨S3584x5120, .bf16⟩
  | 21 => ⟨S_, .i32⟩
  | 22 => ⟨S3584x5120, .i32⟩
  | 23 => ⟨S3584x5120, .i32⟩
  | 24 => ⟨S_, .i32⟩
  | 25 => ⟨S3584x5120, .i32⟩
  | 26 => ⟨S3584x5120, .i32⟩
  | 27 => ⟨S_, .i32⟩
  | 28 => ⟨S3584x5120, .i32⟩
  | 29 => ⟨S3584x5120, .i1⟩
  | 30 => ⟨S3584x5120, .i1⟩
  | 31 => ⟨S3584x5120, .bf16⟩
  | 32 => ⟨S3584x5120, .bf16⟩
  | 33 => ⟨S3584x5120, .bf16⟩
  | 34 => ⟨S3584x5120, .bf16⟩
  | 35 => ⟨S_, .i32⟩
  | 36 => ⟨S3584x5120, .i32⟩
  | 37 => ⟨S3584x5120, .i32⟩
  | 38 => ⟨S_, .i32⟩
  | 39 => ⟨S3584x5120, .i32⟩
  | 40 => ⟨S3584x5120, .i32⟩
  | 41 => ⟨S_, .i32⟩
  | 42 => ⟨S3584x5120, .i32⟩
  | 43 => ⟨S3584x5120, .i1⟩
  | 44 => ⟨S3584x5120, .i1⟩
  | 45 => ⟨S3584x5120, .bf16⟩
  | 46 => ⟨S3584x5120, .bf16⟩
  | 47 => ⟨S_, .i32⟩
  | 48 => ⟨S3584x5120, .i32⟩
  | 49 => ⟨S3584x5120, .i32⟩
  | 50 => ⟨S_, .i32⟩
  | 51 => ⟨S3584x5120, .i32⟩
  | 52 => ⟨S3584x5120, .i32⟩
  | 53 => ⟨S_, .i32⟩
  | 54 => ⟨S3584x5120, .i32⟩
  | 55 => ⟨S3584x5120, .i1⟩
  | 56 => ⟨S3584x5120, .i1⟩
  | 57 => ⟨S3584x5120, .bf16⟩
  | 58 => ⟨S112x32x5120, .bf16⟩
  | 59 => ⟨S112x1x5120, .bf16⟩
  | 60 => ⟨S112x32x5120, .bf16⟩
  | 61 => ⟨S112x32x5120, .bf16⟩
  | 62 => ⟨S3584x5120, .bf16⟩
  | 63 => ⟨S_, .i32⟩
  | 64 => ⟨S3584x5120, .i32⟩
  | 65 => ⟨S3584x5120, .i32⟩
  | 66 => ⟨S_, .i32⟩
  | 67 => ⟨S3584x5120, .i32⟩
  | 68 => ⟨S3584x5120, .i32⟩
  | 69 => ⟨S_, .i32⟩
  | 70 => ⟨S3584x5120, .i32⟩
  | 71 => ⟨S3584x5120, .i32⟩
  | 72 => ⟨S_, .i32⟩
  | 73 => ⟨S3584x5120, .i32⟩
  | 74 => ⟨S3584x5120, .i1⟩
  | 75 => ⟨S3584x5120, .i1⟩
  | 76 => ⟨S_, .bf16⟩
  | 77 => ⟨S_, .bf16⟩
  | 78 => ⟨S3584x5120, .bf16⟩
  | 79 => ⟨S3584x5120, .bf16⟩
  | 80 => ⟨S3584x5120, .bf16⟩
  | 81 => ⟨S_, .bf16⟩
  | 82 => ⟨S_, .bf16⟩
  | 83 => ⟨S3584x5120, .bf16⟩
  | 84 => ⟨S3584x5120, .bf16⟩
  | 85 => ⟨S3584x5120, .bf16⟩
  | 86 => ⟨S_, .bf16⟩
  | 87 => ⟨S_, .bf16⟩
  | 88 => ⟨S3584x5120, .bf16⟩
  | 89 => ⟨S3584x5120, .bf16⟩
  | 90 => ⟨S3584x5120, .bf16⟩
  | 91 => ⟨S_, .bf16⟩
  | 92 => ⟨S_, .bf16⟩
  | 93 => ⟨S3584x5120, .bf16⟩
  | 94 => ⟨S3584x5120, .bf16⟩
  | 95 => ⟨S3584x5120, .bf16⟩
  | 96 => ⟨S_, .bf16⟩
  | 97 => ⟨S_, .bf16⟩
  | 98 => ⟨S3584x5120, .bf16⟩
  | 99 => ⟨S3584x5120, .bf16⟩
  | 100 => ⟨S3584x5120, .bf16⟩
  | 101 => ⟨S_, .bf16⟩
  | 102 => ⟨S_, .bf16⟩
  | 103 => ⟨S3584x5120, .bf16⟩
  | 104 => ⟨S3584x5120, .bf16⟩
  | 105 => ⟨S3584x5120, .bf16⟩
  | 106 => ⟨S_, .bf16⟩
  | 107 => ⟨S_, .bf16⟩
  | 108 => ⟨S3584x5120, .bf16⟩
  | 109 => ⟨S3584x5120, .bf16⟩
  | 110 => ⟨S3584x5120, .bf16⟩
  | 111 => ⟨S_, .bf16⟩
  | 112 => ⟨S_, .bf16⟩
  | 113 => ⟨S3584x5120, .bf16⟩
  | 114 => ⟨S3584x5120, .bf16⟩
  | 115 => ⟨S3584x5120, .bf16⟩
  | 116 => ⟨S_, .i32⟩
  | 117 => ⟨S3584x5120, .i32⟩
  | 118 => ⟨S3584x5120, .i32⟩
  | 119 => ⟨S_, .i32⟩
  | 120 => ⟨S3584x5120, .i32⟩
  | 121 => ⟨S3584x5120, .i32⟩
  | 122 => ⟨S_, .i32⟩
  | 123 => ⟨S3584x5120, .i32⟩
  | 124 => ⟨S3584x5120, .i1⟩
  | 125 => ⟨S3584x5120, .i1⟩
  | 126 => ⟨S3584x5120, .bf16⟩
  | 127 => ⟨S3584x5120, .bf16⟩
  | _ => ⟨S192x1x7168, .bf16⟩

abbrev hbmTy0_3 (i : Nat) : BufTy := match i % 128 with
  | 0 => ⟨S3584x5120, .bf16⟩
  | 1 => ⟨S3584x5120, .bf16⟩
  | 2 => ⟨S_, .i32⟩
  | 3 => ⟨S3584x5120, .i32⟩
  | 4 => ⟨S3584x5120, .i32⟩
  | 5 => ⟨S_, .i32⟩
  | 6 => ⟨S3584x5120, .i32⟩
  | 7 => ⟨S3584x5120, .i32⟩
  | 8 => ⟨S_, .i32⟩
  | 9 => ⟨S3584x5120, .i32⟩
  | 10 => ⟨S3584x5120, .i1⟩
  | 11 => ⟨S3584x5120, .i1⟩
  | 12 => ⟨S3584x5120, .bf16⟩
  | 13 => ⟨S3584x5120, .bf16⟩
  | 14 => ⟨S_, .i32⟩
  | 15 => ⟨S3584x5120, .i32⟩
  | 16 => ⟨S3584x5120, .i32⟩
  | 17 => ⟨S_, .i32⟩
  | 18 => ⟨S3584x5120, .i32⟩
  | 19 => ⟨S3584x5120, .i32⟩
  | 20 => ⟨S_, .i32⟩
  | 21 => ⟨S3584x5120, .i32⟩
  | 22 => ⟨S3584x5120, .i1⟩
  | 23 => ⟨S3584x5120, .i1⟩
  | 24 => ⟨S3584x5120, .bf16⟩
  | 25 => ⟨S112x32x5120, .bf16⟩
  | 26 => ⟨S112x1x5120, .bf16⟩
  | 27 => ⟨S112x32x5120, .bf16⟩
  | 28 => ⟨S112x32x5120, .bf16⟩
  | 29 => ⟨S3584x5120, .bf16⟩
  | 30 => ⟨S192x5120, .f32⟩
  | 31 => ⟨S192x5120, .f32⟩
  | 32 => ⟨S192x5120, .f32⟩
  | 33 => ⟨S192x5120, .bf16⟩
  | 34 => ⟨S192x10240, .bf16⟩
  | 35 => ⟨S192x1x10240, .bf16⟩
  | _ => ⟨S192x1x7168, .bf16⟩

abbrev hbmTy (i : Nat) : BufTy := match i / 128 with
  | 0 => hbmTy0_0 i
  | 1 => hbmTy0_1 i
  | 2 => hbmTy0_2 i
  | 3 => hbmTy0_3 i
  | _ => ⟨S192x1x7168, .bf16⟩

abbrev bufTy : (tb : Table) → Fin (tcTables nBuf tb) → BufTy
  | .hbm, ⟨i, _⟩ => hbmTy i
  | _, _ => ⟨S192x1x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_v16 : Ref sig .tc := ⟨.hbm, 22, rfl⟩
abbrev main_v17 : Ref sig .tc := ⟨.hbm, 23, rfl⟩
abbrev main_c_0 : Ref sig .tc := ⟨.hbm, 24, rfl⟩
abbrev main_v18 : Ref sig .tc := ⟨.hbm, 25, rfl⟩
abbrev main_v19 : Ref sig .tc := ⟨.hbm, 26, rfl⟩
abbrev main_c_1 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_v27 : Ref sig .tc := ⟨.hbm, 41, rfl⟩
abbrev main_cst_5 : Ref sig .tc := ⟨.hbm, 42, rfl⟩
abbrev main_cst_6 : Ref sig .tc := ⟨.hbm, 43, rfl⟩
abbrev main_call1_v0 : Ref sig .tc := ⟨.hbm, 44, rfl⟩
abbrev main_call1_v1 : Ref sig .tc := ⟨.hbm, 45, rfl⟩
abbrev main_v28 : Ref sig .tc := ⟨.hbm, 46, rfl⟩
abbrev main_cst_7 : Ref sig .tc := ⟨.hbm, 47, rfl⟩
abbrev main_cst_8 : Ref sig .tc := ⟨.hbm, 48, rfl⟩
abbrev main_call2_v0 : Ref sig .tc := ⟨.hbm, 49, rfl⟩
abbrev main_call2_v1 : Ref sig .tc := ⟨.hbm, 50, rfl⟩
abbrev main_v29 : Ref sig .tc := ⟨.hbm, 51, rfl⟩
abbrev main_cst_9 : Ref sig .tc := ⟨.hbm, 52, rfl⟩
abbrev main_cst_10 : Ref sig .tc := ⟨.hbm, 53, rfl⟩
abbrev main_call3_v0 : Ref sig .tc := ⟨.hbm, 54, rfl⟩
abbrev main_call3_v1 : Ref sig .tc := ⟨.hbm, 55, rfl⟩
abbrev main_v30 : Ref sig .tc := ⟨.hbm, 56, rfl⟩
abbrev main_cst_11 : Ref sig .tc := ⟨.hbm, 57, rfl⟩
abbrev main_cst_12 : Ref sig .tc := ⟨.hbm, 58, rfl⟩
abbrev main_call4_v0 : Ref sig .tc := ⟨.hbm, 59, rfl⟩
abbrev main_call4_v1 : Ref sig .tc := ⟨.hbm, 60, rfl⟩
abbrev main_v31 : Ref sig .tc := ⟨.hbm, 61, rfl⟩
abbrev main_cst_13 : Ref sig .tc := ⟨.hbm, 62, rfl⟩
abbrev main_cst_14 : Ref sig .tc := ⟨.hbm, 63, rfl⟩
abbrev main_call5_v0 : Ref sig .tc := ⟨.hbm, 64, rfl⟩
abbrev main_call5_v1 : Ref sig .tc := ⟨.hbm, 65, rfl⟩
abbrev main_v32 : Ref sig .tc := ⟨.hbm, 66, rfl⟩
abbrev main_cst_15 : Ref sig .tc := ⟨.hbm, 67, rfl⟩
abbrev main_cst_16 : Ref sig .tc := ⟨.hbm, 68, rfl⟩
abbrev main_call6_v0 : Ref sig .tc := ⟨.hbm, 69, rfl⟩
abbrev main_call6_v1 : Ref sig .tc := ⟨.hbm, 70, rfl⟩
abbrev main_v33 : Ref sig .tc := ⟨.hbm, 71, rfl⟩
abbrev main_cst_17 : Ref sig .tc := ⟨.hbm, 72, rfl⟩
abbrev main_cst_18 : Ref sig .tc := ⟨.hbm, 73, rfl⟩
abbrev main_call7_v0 : Ref sig .tc := ⟨.hbm, 74, rfl⟩
abbrev main_call7_v1 : Ref sig .tc := ⟨.hbm, 75, rfl⟩
abbrev main_v34 : Ref sig .tc := ⟨.hbm, 76, rfl⟩
abbrev main_c_19 : Ref sig .tc := ⟨.hbm, 77, rfl⟩
abbrev main_v35 : Ref sig .tc := ⟨.hbm, 78, rfl⟩
abbrev main_v36 : Ref sig .tc := ⟨.hbm, 79, rfl⟩
abbrev main_c_20 : Ref sig .tc := ⟨.hbm, 80, rfl⟩
abbrev main_v37 : Ref sig .tc := ⟨.hbm, 81, rfl⟩
abbrev main_v38 : Ref sig .tc := ⟨.hbm, 82, rfl⟩
abbrev main_c_21 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_c_22 : Ref sig .tc := ⟨.hbm, 91, rfl⟩
abbrev main_v46 : Ref sig .tc := ⟨.hbm, 92, rfl⟩
abbrev main_v47 : Ref sig .tc := ⟨.hbm, 93, rfl⟩
abbrev main_c_23 : Ref sig .tc := ⟨.hbm, 94, rfl⟩
abbrev main_v48 : Ref sig .tc := ⟨.hbm, 95, rfl⟩
abbrev main_v49 : Ref sig .tc := ⟨.hbm, 96, rfl⟩
abbrev main_c_24 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_c_25 : Ref sig .tc := ⟨.hbm, 103, rfl⟩
abbrev main_v55 : Ref sig .tc := ⟨.hbm, 104, rfl⟩
abbrev main_v56 : Ref sig .tc := ⟨.hbm, 105, rfl⟩
abbrev main_c_26 : Ref sig .tc := ⟨.hbm, 106, rfl⟩
abbrev main_v57 : Ref sig .tc := ⟨.hbm, 107, rfl⟩
abbrev main_v58 : Ref sig .tc := ⟨.hbm, 108, rfl⟩
abbrev main_c_27 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_c_28 : Ref sig .tc := ⟨.hbm, 119, rfl⟩
abbrev main_v68 : Ref sig .tc := ⟨.hbm, 120, rfl⟩
abbrev main_v69 : Ref sig .tc := ⟨.hbm, 121, rfl⟩
abbrev main_c_29 : Ref sig .tc := ⟨.hbm, 122, rfl⟩
abbrev main_v70 : Ref sig .tc := ⟨.hbm, 123, rfl⟩
abbrev main_v71 : Ref sig .tc := ⟨.hbm, 124, rfl⟩
abbrev main_c_30 : Ref sig .tc := ⟨.hbm, 125, rfl⟩
abbrev main_v72 : Ref sig .tc := ⟨.hbm, 126, rfl⟩
abbrev main_v73 : Ref sig .tc := ⟨.hbm, 127, rfl⟩
abbrev main_c_31 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_cst_32 : Ref sig .tc := ⟨.hbm, 132, rfl⟩
abbrev main_cst_33 : Ref sig .tc := ⟨.hbm, 133, rfl⟩
abbrev main_call15_v0 : Ref sig .tc := ⟨.hbm, 134, rfl⟩
abbrev main_call15_v1 : Ref sig .tc := ⟨.hbm, 135, rfl⟩
abbrev main_v77 : Ref sig .tc := ⟨.hbm, 136, rfl⟩
abbrev main_cst_34 : Ref sig .tc := ⟨.hbm, 137, rfl⟩
abbrev main_cst_35 : Ref sig .tc := ⟨.hbm, 138, rfl⟩
abbrev main_call16_v0 : Ref sig .tc := ⟨.hbm, 139, rfl⟩
abbrev main_call16_v1 : Ref sig .tc := ⟨.hbm, 140, rfl⟩
abbrev main_v78 : Ref sig .tc := ⟨.hbm, 141, rfl⟩
abbrev main_cst_36 : Ref sig .tc := ⟨.hbm, 142, rfl⟩
abbrev main_cst_37 : Ref sig .tc := ⟨.hbm, 143, rfl⟩
abbrev main_call17_v0 : Ref sig .tc := ⟨.hbm, 144, rfl⟩
abbrev main_call17_v1 : Ref sig .tc := ⟨.hbm, 145, rfl⟩
abbrev main_v79 : Ref sig .tc := ⟨.hbm, 146, rfl⟩
abbrev main_cst_38 : Ref sig .tc := ⟨.hbm, 147, rfl⟩
abbrev main_cst_39 : Ref sig .tc := ⟨.hbm, 148, rfl⟩
abbrev main_call18_v0 : Ref sig .tc := ⟨.hbm, 149, rfl⟩
abbrev main_call18_v1 : Ref sig .tc := ⟨.hbm, 150, rfl⟩
abbrev main_v80 : Ref sig .tc := ⟨.hbm, 151, rfl⟩
abbrev main_cst_40 : Ref sig .tc := ⟨.hbm, 152, rfl⟩
abbrev main_cst_41 : Ref sig .tc := ⟨.hbm, 153, rfl⟩
abbrev main_call19_v0 : Ref sig .tc := ⟨.hbm, 154, rfl⟩
abbrev main_call19_v1 : Ref sig .tc := ⟨.hbm, 155, rfl⟩
abbrev main_v81 : Ref sig .tc := ⟨.hbm, 156, rfl⟩
abbrev main_cst_42 : Ref sig .tc := ⟨.hbm, 157, rfl⟩
abbrev main_cst_43 : Ref sig .tc := ⟨.hbm, 158, rfl⟩
abbrev main_call20_v0 : Ref sig .tc := ⟨.hbm, 159, rfl⟩
abbrev main_call20_v1 : Ref sig .tc := ⟨.hbm, 160, rfl⟩
abbrev main_v82 : Ref sig .tc := ⟨.hbm, 161, rfl⟩
abbrev main_cst_44 : Ref sig .tc := ⟨.hbm, 162, rfl⟩
abbrev main_cst_45 : Ref sig .tc := ⟨.hbm, 163, rfl⟩
abbrev main_call21_v0 : Ref sig .tc := ⟨.hbm, 164, rfl⟩
abbrev main_call21_v1 : Ref sig .tc := ⟨.hbm, 165, rfl⟩
abbrev main_v83 : Ref sig .tc := ⟨.hbm, 166, rfl⟩
abbrev main_cst_46 : Ref sig .tc := ⟨.hbm, 167, rfl⟩
abbrev main_cst_47 : Ref sig .tc := ⟨.hbm, 168, rfl⟩
abbrev main_call22_v0 : Ref sig .tc := ⟨.hbm, 169, rfl⟩
abbrev main_call22_v1 : Ref sig .tc := ⟨.hbm, 170, rfl⟩
abbrev main_v84 : Ref sig .tc := ⟨.hbm, 171, rfl⟩
abbrev main_c_48 : Ref sig .tc := ⟨.hbm, 172, rfl⟩
abbrev main_v85 : Ref sig .tc := ⟨.hbm, 173, rfl⟩
abbrev main_v86 : Ref sig .tc := ⟨.hbm, 174, rfl⟩
abbrev main_c_49 : Ref sig .tc := ⟨.hbm, 175, rfl⟩
abbrev main_v87 : Ref sig .tc := ⟨.hbm, 176, rfl⟩
abbrev main_v88 : Ref sig .tc := ⟨.hbm, 177, rfl⟩
abbrev main_c_50 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_v95 : Ref sig .tc := ⟨.hbm, 185, rfl⟩
abbrev main_c_51 : Ref sig .tc := ⟨.hbm, 186, rfl⟩
abbrev main_v96 : Ref sig .tc := ⟨.hbm, 187, rfl⟩
abbrev main_v97 : Ref sig .tc := ⟨.hbm, 188, rfl⟩
abbrev main_c_52 : Ref sig .tc := ⟨.hbm, 189, rfl⟩
abbrev main_v98 : Ref sig .tc := ⟨.hbm, 190, rfl⟩
abbrev main_v99 : Ref sig .tc := ⟨.hbm, 191, rfl⟩
abbrev main_c_53 : Ref sig .tc := ⟨.hbm, 192, rfl⟩
abbrev main_v100 : Ref sig .tc := ⟨.hbm, 193, rfl⟩
abbrev main_v101 : Ref sig .tc := ⟨.hbm, 194, rfl⟩
abbrev main_v102 : Ref sig .tc := ⟨.hbm, 195, rfl⟩
abbrev main_v103 : Ref sig .tc := ⟨.hbm, 196, rfl⟩
abbrev main_v104 : Ref sig .tc := ⟨.hbm, 197, rfl⟩
abbrev main_c_54 : Ref sig .tc := ⟨.hbm, 198, rfl⟩
abbrev main_v105 : Ref sig .tc := ⟨.hbm, 199, rfl⟩
abbrev main_v106 : Ref sig .tc := ⟨.hbm, 200, rfl⟩
abbrev main_c_55 : Ref sig .tc := ⟨.hbm, 201, rfl⟩
abbrev main_v107 : Ref sig .tc := ⟨.hbm, 202, rfl⟩
abbrev main_v108 : Ref sig .tc := ⟨.hbm, 203, rfl⟩
abbrev main_c_56 : Ref sig .tc := ⟨.hbm, 204, rfl⟩
abbrev main_v109 : Ref sig .tc := ⟨.hbm, 205, rfl⟩
abbrev main_v110 : Ref sig .tc := ⟨.hbm, 206, rfl⟩
abbrev main_v111 : Ref sig .tc := ⟨.hbm, 207, rfl⟩
abbrev main_v112 : Ref sig .tc := ⟨.hbm, 208, rfl⟩
abbrev main_v113 : Ref sig .tc := ⟨.hbm, 209, rfl⟩
abbrev main_v114 : Ref sig .tc := ⟨.hbm, 210, rfl⟩
abbrev main_v115 : Ref sig .tc := ⟨.hbm, 211, rfl⟩
abbrev main_v116 : Ref sig .tc := ⟨.hbm, 212, rfl⟩
abbrev main_v117 : Ref sig .tc := ⟨.hbm, 213, rfl⟩
abbrev main_v118 : Ref sig .tc := ⟨.hbm, 214, rfl⟩
abbrev main_v119 : Ref sig .tc := ⟨.hbm, 215, rfl⟩
abbrev main_v120 : Ref sig .tc := ⟨.hbm, 216, rfl⟩
abbrev main_v121 : Ref sig .tc := ⟨.hbm, 217, rfl⟩
abbrev main_v122 : Ref sig .tc := ⟨.hbm, 218, rfl⟩
abbrev main_v123 : Ref sig .tc := ⟨.hbm, 219, rfl⟩
abbrev main_v124 : Ref sig .tc := ⟨.hbm, 220, rfl⟩
abbrev main_c_57 : Ref sig .tc := ⟨.hbm, 221, rfl⟩
abbrev main_v125 : Ref sig .tc := ⟨.hbm, 222, rfl⟩
abbrev main_v126 : Ref sig .tc := ⟨.hbm, 223, rfl⟩
abbrev main_c_58 : Ref sig .tc := ⟨.hbm, 224, rfl⟩
abbrev main_v127 : Ref sig .tc := ⟨.hbm, 225, rfl⟩
abbrev main_v128 : Ref sig .tc := ⟨.hbm, 226, rfl⟩
abbrev main_c_59 : Ref sig .tc := ⟨.hbm, 227, rfl⟩
abbrev main_v129 : Ref sig .tc := ⟨.hbm, 228, rfl⟩
abbrev main_v130 : Ref sig .tc := ⟨.hbm, 229, rfl⟩
abbrev main_c_60 : Ref sig .tc := ⟨.hbm, 230, rfl⟩
abbrev main_v131 : Ref sig .tc := ⟨.hbm, 231, rfl⟩
abbrev main_v132 : Ref sig .tc := ⟨.hbm, 232, rfl⟩
abbrev main_c_61 : Ref sig .tc := ⟨.hbm, 233, rfl⟩
abbrev main_v133 : Ref sig .tc := ⟨.hbm, 234, rfl⟩
abbrev main_v134 : Ref sig .tc := ⟨.hbm, 235, rfl⟩
abbrev main_v135 : Ref sig .tc := ⟨.hbm, 236, rfl⟩
abbrev main_cst_62 : Ref sig .tc := ⟨.hbm, 237, rfl⟩
abbrev main_cst_63 : Ref sig .tc := ⟨.hbm, 238, rfl⟩
abbrev main_call30_v0 : Ref sig .tc := ⟨.hbm, 239, rfl⟩
abbrev main_call30_v1 : Ref sig .tc := ⟨.hbm, 240, rfl⟩
abbrev main_v136 : Ref sig .tc := ⟨.hbm, 241, rfl⟩
abbrev main_cst_64 : Ref sig .tc := ⟨.hbm, 242, rfl⟩
abbrev main_cst_65 : Ref sig .tc := ⟨.hbm, 243, rfl⟩
abbrev main_call31_v0 : Ref sig .tc := ⟨.hbm, 244, rfl⟩
abbrev main_call31_v1 : Ref sig .tc := ⟨.hbm, 245, rfl⟩
abbrev main_v137 : Ref sig .tc := ⟨.hbm, 246, rfl⟩
abbrev main_cst_66 : Ref sig .tc := ⟨.hbm, 247, rfl⟩
abbrev main_cst_67 : Ref sig .tc := ⟨.hbm, 248, rfl⟩
abbrev main_call32_v0 : Ref sig .tc := ⟨.hbm, 249, rfl⟩
abbrev main_call32_v1 : Ref sig .tc := ⟨.hbm, 250, rfl⟩
abbrev main_v138 : Ref sig .tc := ⟨.hbm, 251, rfl⟩
abbrev main_cst_68 : Ref sig .tc := ⟨.hbm, 252, rfl⟩
abbrev main_cst_69 : Ref sig .tc := ⟨.hbm, 253, rfl⟩
abbrev main_call33_v0 : Ref sig .tc := ⟨.hbm, 254, rfl⟩
abbrev main_call33_v1 : Ref sig .tc := ⟨.hbm, 255, rfl⟩
abbrev main_v139 : Ref sig .tc := ⟨.hbm, 256, rfl⟩
abbrev main_cst_70 : Ref sig .tc := ⟨.hbm, 257, rfl⟩
abbrev main_cst_71 : Ref sig .tc := ⟨.hbm, 258, rfl⟩
abbrev main_call34_v0 : Ref sig .tc := ⟨.hbm, 259, rfl⟩
abbrev main_call34_v1 : Ref sig .tc := ⟨.hbm, 260, rfl⟩
abbrev main_v140 : Ref sig .tc := ⟨.hbm, 261, rfl⟩
abbrev main_cst_72 : Ref sig .tc := ⟨.hbm, 262, rfl⟩
abbrev main_cst_73 : Ref sig .tc := ⟨.hbm, 263, rfl⟩
abbrev main_call35_v0 : Ref sig .tc := ⟨.hbm, 264, rfl⟩
abbrev main_call35_v1 : Ref sig .tc := ⟨.hbm, 265, rfl⟩
abbrev main_v141 : Ref sig .tc := ⟨.hbm, 266, rfl⟩
abbrev main_cst_74 : Ref sig .tc := ⟨.hbm, 267, rfl⟩
abbrev main_cst_75 : Ref sig .tc := ⟨.hbm, 268, rfl⟩
abbrev main_call36_v0 : Ref sig .tc := ⟨.hbm, 269, rfl⟩
abbrev main_call36_v1 : Ref sig .tc := ⟨.hbm, 270, rfl⟩
abbrev main_v142 : Ref sig .tc := ⟨.hbm, 271, rfl⟩
abbrev main_cst_76 : Ref sig .tc := ⟨.hbm, 272, rfl⟩
abbrev main_cst_77 : Ref sig .tc := ⟨.hbm, 273, rfl⟩
abbrev main_call37_v0 : Ref sig .tc := ⟨.hbm, 274, rfl⟩
abbrev main_call37_v1 : Ref sig .tc := ⟨.hbm, 275, rfl⟩
abbrev main_v143 : Ref sig .tc := ⟨.hbm, 276, rfl⟩
abbrev main_c_78 : Ref sig .tc := ⟨.hbm, 277, rfl⟩
abbrev main_v144 : Ref sig .tc := ⟨.hbm, 278, rfl⟩
abbrev main_v145 : Ref sig .tc := ⟨.hbm, 279, rfl⟩
abbrev main_c_79 : Ref sig .tc := ⟨.hbm, 280, rfl⟩
abbrev main_v146 : Ref sig .tc := ⟨.hbm, 281, rfl⟩
abbrev main_v147 : Ref sig .tc := ⟨.hbm, 282, rfl⟩
abbrev main_c_80 : Ref sig .tc := ⟨.hbm, 283, rfl⟩
abbrev main_v148 : Ref sig .tc := ⟨.hbm, 284, rfl⟩
abbrev main_v149 : Ref sig .tc := ⟨.hbm, 285, rfl⟩
abbrev main_v150 : Ref sig .tc := ⟨.hbm, 286, rfl⟩
abbrev main_v151 : Ref sig .tc := ⟨.hbm, 287, rfl⟩
abbrev main_v152 : Ref sig .tc := ⟨.hbm, 288, rfl⟩
abbrev main_v153 : Ref sig .tc := ⟨.hbm, 289, rfl⟩
abbrev main_v154 : Ref sig .tc := ⟨.hbm, 290, rfl⟩
abbrev main_c_81 : Ref sig .tc := ⟨.hbm, 291, rfl⟩
abbrev main_v155 : Ref sig .tc := ⟨.hbm, 292, rfl⟩
abbrev main_v156 : Ref sig .tc := ⟨.hbm, 293, rfl⟩
abbrev main_c_82 : Ref sig .tc := ⟨.hbm, 294, rfl⟩
abbrev main_v157 : Ref sig .tc := ⟨.hbm, 295, rfl⟩
abbrev main_v158 : Ref sig .tc := ⟨.hbm, 296, rfl⟩
abbrev main_c_83 : Ref sig .tc := ⟨.hbm, 297, rfl⟩
abbrev main_v159 : Ref sig .tc := ⟨.hbm, 298, rfl⟩
abbrev main_v160 : Ref sig .tc := ⟨.hbm, 299, rfl⟩
abbrev main_v161 : Ref sig .tc := ⟨.hbm, 300, rfl⟩
abbrev main_v162 : Ref sig .tc := ⟨.hbm, 301, rfl⟩
abbrev main_v163 : Ref sig .tc := ⟨.hbm, 302, rfl⟩
abbrev main_c_84 : Ref sig .tc := ⟨.hbm, 303, rfl⟩
abbrev main_v164 : Ref sig .tc := ⟨.hbm, 304, rfl⟩
abbrev main_v165 : Ref sig .tc := ⟨.hbm, 305, rfl⟩
abbrev main_c_85 : Ref sig .tc := ⟨.hbm, 306, rfl⟩
abbrev main_v166 : Ref sig .tc := ⟨.hbm, 307, rfl⟩
abbrev main_v167 : Ref sig .tc := ⟨.hbm, 308, rfl⟩
abbrev main_c_86 : Ref sig .tc := ⟨.hbm, 309, rfl⟩
abbrev main_v168 : Ref sig .tc := ⟨.hbm, 310, rfl⟩
abbrev main_v169 : Ref sig .tc := ⟨.hbm, 311, rfl⟩
abbrev main_v170 : Ref sig .tc := ⟨.hbm, 312, rfl⟩
abbrev main_v171 : Ref sig .tc := ⟨.hbm, 313, rfl⟩
abbrev main_v172 : Ref sig .tc := ⟨.hbm, 314, rfl⟩
abbrev main_v173 : Ref sig .tc := ⟨.hbm, 315, rfl⟩
abbrev main_v174 : Ref sig .tc := ⟨.hbm, 316, rfl⟩
abbrev main_v175 : Ref sig .tc := ⟨.hbm, 317, rfl⟩
abbrev main_v176 : Ref sig .tc := ⟨.hbm, 318, rfl⟩
abbrev main_c_87 : Ref sig .tc := ⟨.hbm, 319, rfl⟩
abbrev main_v177 : Ref sig .tc := ⟨.hbm, 320, rfl⟩
abbrev main_v178 : Ref sig .tc := ⟨.hbm, 321, rfl⟩
abbrev main_c_88 : Ref sig .tc := ⟨.hbm, 322, rfl⟩
abbrev main_v179 : Ref sig .tc := ⟨.hbm, 323, rfl⟩
abbrev main_v180 : Ref sig .tc := ⟨.hbm, 324, rfl⟩
abbrev main_c_89 : Ref sig .tc := ⟨.hbm, 325, rfl⟩
abbrev main_v181 : Ref sig .tc := ⟨.hbm, 326, rfl⟩
abbrev main_v182 : Ref sig .tc := ⟨.hbm, 327, rfl⟩
abbrev main_c_90 : Ref sig .tc := ⟨.hbm, 328, rfl⟩
abbrev main_v183 : Ref sig .tc := ⟨.hbm, 329, rfl⟩
abbrev main_v184 : Ref sig .tc := ⟨.hbm, 330, rfl⟩
abbrev main_v185 : Ref sig .tc := ⟨.hbm, 331, rfl⟩
abbrev main_cst_91 : Ref sig .tc := ⟨.hbm, 332, rfl⟩
abbrev main_cst_92 : Ref sig .tc := ⟨.hbm, 333, rfl⟩
abbrev main_call45_v0 : Ref sig .tc := ⟨.hbm, 334, rfl⟩
abbrev main_call45_v1 : Ref sig .tc := ⟨.hbm, 335, rfl⟩
abbrev main_v186 : Ref sig .tc := ⟨.hbm, 336, rfl⟩
abbrev main_cst_93 : Ref sig .tc := ⟨.hbm, 337, rfl⟩
abbrev main_cst_94 : Ref sig .tc := ⟨.hbm, 338, rfl⟩
abbrev main_call46_v0 : Ref sig .tc := ⟨.hbm, 339, rfl⟩
abbrev main_call46_v1 : Ref sig .tc := ⟨.hbm, 340, rfl⟩
abbrev main_v187 : Ref sig .tc := ⟨.hbm, 341, rfl⟩
abbrev main_cst_95 : Ref sig .tc := ⟨.hbm, 342, rfl⟩
abbrev main_cst_96 : Ref sig .tc := ⟨.hbm, 343, rfl⟩
abbrev main_call47_v0 : Ref sig .tc := ⟨.hbm, 344, rfl⟩
abbrev main_call47_v1 : Ref sig .tc := ⟨.hbm, 345, rfl⟩
abbrev main_v188 : Ref sig .tc := ⟨.hbm, 346, rfl⟩
abbrev main_cst_97 : Ref sig .tc := ⟨.hbm, 347, rfl⟩
abbrev main_cst_98 : Ref sig .tc := ⟨.hbm, 348, rfl⟩
abbrev main_call48_v0 : Ref sig .tc := ⟨.hbm, 349, rfl⟩
abbrev main_call48_v1 : Ref sig .tc := ⟨.hbm, 350, rfl⟩
abbrev main_v189 : Ref sig .tc := ⟨.hbm, 351, rfl⟩
abbrev main_cst_99 : Ref sig .tc := ⟨.hbm, 352, rfl⟩
abbrev main_cst_100 : Ref sig .tc := ⟨.hbm, 353, rfl⟩
abbrev main_call49_v0 : Ref sig .tc := ⟨.hbm, 354, rfl⟩
abbrev main_call49_v1 : Ref sig .tc := ⟨.hbm, 355, rfl⟩
abbrev main_v190 : Ref sig .tc := ⟨.hbm, 356, rfl⟩
abbrev main_cst_101 : Ref sig .tc := ⟨.hbm, 357, rfl⟩
abbrev main_cst_102 : Ref sig .tc := ⟨.hbm, 358, rfl⟩
abbrev main_call50_v0 : Ref sig .tc := ⟨.hbm, 359, rfl⟩
abbrev main_call50_v1 : Ref sig .tc := ⟨.hbm, 360, rfl⟩
abbrev main_v191 : Ref sig .tc := ⟨.hbm, 361, rfl⟩
abbrev main_cst_103 : Ref sig .tc := ⟨.hbm, 362, rfl⟩
abbrev main_cst_104 : Ref sig .tc := ⟨.hbm, 363, rfl⟩
abbrev main_call51_v0 : Ref sig .tc := ⟨.hbm, 364, rfl⟩
abbrev main_call51_v1 : Ref sig .tc := ⟨.hbm, 365, rfl⟩
abbrev main_v192 : Ref sig .tc := ⟨.hbm, 366, rfl⟩
abbrev main_cst_105 : Ref sig .tc := ⟨.hbm, 367, rfl⟩
abbrev main_cst_106 : Ref sig .tc := ⟨.hbm, 368, rfl⟩
abbrev main_call52_v0 : Ref sig .tc := ⟨.hbm, 369, rfl⟩
abbrev main_call52_v1 : Ref sig .tc := ⟨.hbm, 370, rfl⟩
abbrev main_v193 : Ref sig .tc := ⟨.hbm, 371, rfl⟩
abbrev main_c_107 : Ref sig .tc := ⟨.hbm, 372, rfl⟩
abbrev main_v194 : Ref sig .tc := ⟨.hbm, 373, rfl⟩
abbrev main_v195 : Ref sig .tc := ⟨.hbm, 374, rfl⟩
abbrev main_c_108 : Ref sig .tc := ⟨.hbm, 375, rfl⟩
abbrev main_v196 : Ref sig .tc := ⟨.hbm, 376, rfl⟩
abbrev main_v197 : Ref sig .tc := ⟨.hbm, 377, rfl⟩
abbrev main_c_109 : Ref sig .tc := ⟨.hbm, 378, rfl⟩
abbrev main_v198 : Ref sig .tc := ⟨.hbm, 379, rfl⟩
abbrev main_v199 : Ref sig .tc := ⟨.hbm, 380, rfl⟩
abbrev main_v200 : Ref sig .tc := ⟨.hbm, 381, rfl⟩
abbrev main_v201 : Ref sig .tc := ⟨.hbm, 382, rfl⟩
abbrev main_v202 : Ref sig .tc := ⟨.hbm, 383, rfl⟩
abbrev main_v203 : Ref sig .tc := ⟨.hbm, 384, rfl⟩
abbrev main_v204 : Ref sig .tc := ⟨.hbm, 385, rfl⟩
abbrev main_c_110 : Ref sig .tc := ⟨.hbm, 386, rfl⟩
abbrev main_v205 : Ref sig .tc := ⟨.hbm, 387, rfl⟩
abbrev main_v206 : Ref sig .tc := ⟨.hbm, 388, rfl⟩
abbrev main_c_111 : Ref sig .tc := ⟨.hbm, 389, rfl⟩
abbrev main_v207 : Ref sig .tc := ⟨.hbm, 390, rfl⟩
abbrev main_v208 : Ref sig .tc := ⟨.hbm, 391, rfl⟩
abbrev main_c_112 : Ref sig .tc := ⟨.hbm, 392, rfl⟩
abbrev main_v209 : Ref sig .tc := ⟨.hbm, 393, rfl⟩
abbrev main_v210 : Ref sig .tc := ⟨.hbm, 394, rfl⟩
abbrev main_v211 : Ref sig .tc := ⟨.hbm, 395, rfl⟩
abbrev main_v212 : Ref sig .tc := ⟨.hbm, 396, rfl⟩
abbrev main_v213 : Ref sig .tc := ⟨.hbm, 397, rfl⟩
abbrev main_c_113 : Ref sig .tc := ⟨.hbm, 398, rfl⟩
abbrev main_v214 : Ref sig .tc := ⟨.hbm, 399, rfl⟩
abbrev main_v215 : Ref sig .tc := ⟨.hbm, 400, rfl⟩
abbrev main_c_114 : Ref sig .tc := ⟨.hbm, 401, rfl⟩
abbrev main_v216 : Ref sig .tc := ⟨.hbm, 402, rfl⟩
abbrev main_v217 : Ref sig .tc := ⟨.hbm, 403, rfl⟩
abbrev main_c_115 : Ref sig .tc := ⟨.hbm, 404, rfl⟩
abbrev main_v218 : Ref sig .tc := ⟨.hbm, 405, rfl⟩
abbrev main_v219 : Ref sig .tc := ⟨.hbm, 406, rfl⟩
abbrev main_v220 : Ref sig .tc := ⟨.hbm, 407, rfl⟩
abbrev main_v221 : Ref sig .tc := ⟨.hbm, 408, rfl⟩
abbrev main_v222 : Ref sig .tc := ⟨.hbm, 409, rfl⟩
abbrev main_v223 : Ref sig .tc := ⟨.hbm, 410, rfl⟩
abbrev main_v224 : Ref sig .tc := ⟨.hbm, 411, rfl⟩
abbrev main_v225 : Ref sig .tc := ⟨.hbm, 412, rfl⟩
abbrev main_v226 : Ref sig .tc := ⟨.hbm, 413, rfl⟩
abbrev main_v227 : Ref sig .tc := ⟨.hbm, 414, rfl⟩
abbrev main_v228 : Ref sig .tc := ⟨.hbm, 415, rfl⟩
abbrev main_v229 : Ref sig .tc := ⟨.hbm, 416, rfl⟩
abbrev main_v230 : Ref sig .tc := ⟨.hbm, 417, rfl⟩
abbrev main_v231 : Ref sig .tc := ⟨.hbm, 418, rfl⟩
abbrev main_v232 : Ref sig .tc := ⟨.hbm, 419, rfl⟩

abbrev nD : Nat := 1
abbrev τ : Topo := Topo.v7x

variable {F : FTy → Type} [FloatOps F]
-- ==== Proof.Prog.lean ====
/-
  The kernel body as a program with loops.

  The printed body is one long run of statements, cut by count. Here the same run is written the way the
  source writes it: the block scales into the scratch buffer, then twenty-eight steps over the contracted
  axis, each of four lane groups, each of four blocks of thirty-two byte rows.
-/
module

public import proofs.«01_k».proof.KernelIdeal
public import Idealize.ShloMosaic.Lib.Tactic
public import Idealize.ShloMosaic.Lib.Exec

@[expose] public section

noncomputable section

namespace Cert.Proof

open Idealize.ShloMosaic Idealize.SL.Sem
open Cert.KernelIdeal Cert.KernelIdeal.Facts Cert.KernelIdeal.Shapes1.Facts₀

variable {F : FTy → Type} [FloatOps F] [Cert.KernelIdeal.Facts]

/-! ## The pure part -/

/-- The odd-byte mask: of every four bytes of a word, the second and the fourth. -/
def oddMask : IVec S32x128 1 :=
  cmpi .ne (bitcast S32x128 8 (broadcast S8x128 4278255360#32 : IVec S8x128 32) bitcasts_S8x128_w32_S32x128_w8)
    (broadcast S32x128 0#8)

/-- The nibbles of thirty-two byte rows, four byte rows to a word: the high ones at shift 4, the low ones at 0. -/
def nib (w : Vec F S32x128 .i8) (s : BitVec 32) : IVec S32x128 8 :=
  bitcast S32x128 8 (andi (shrsi (bitcast S8x128 32 (w : IVec S32x128 8) bitcasts_S32x128_w8_S8x128_w32) (broadcast S8x128 s))
    (broadcast S8x128 252645135#32)) bitcasts_S8x128_w32_S32x128_w8

/-- A table's bytes at the nibbles. -/
def gat (tab q : IVec S32x128 8) : IVec S32x128 8 :=
  dynamicGather 0 tab (shapeCast S32x128 (shapeCast S32x128x1 (extsi 32 q natLt_8_32) shapeCasts_S32x128_S32x128x1)
    shapeCasts_S32x128x1_S32x128)

/-- Bytes read two to a sixteen-bit word. -/
def halves (g : IVec S32x128 8) : IVec S16x128 16 :=
  bitcast S16x128 16 (bitcast S8x128 32 g bitcasts_S32x128_w8_S8x128_w32) bitcasts_S8x128_w32_S16x128_w16

/-- The table values at the even byte rows. -/
def evens (lo hi : IVec S32x128 8) : FVec F S16x128 .bf16 :=
  bitcastToFloat .bf16 (ori (andi (halves lo) (broadcast S16x128 255#16)) (shli (halves hi) (broadcast S16x128 8#16)))

/-- The table values at the odd byte rows. -/
def odds (msk : IVec S32x128 1) (lo hi : IVec S32x128 8) : FVec F S16x128 .bf16 :=
  bitcastToFloat .bf16 (halves (select msk hi
    (bitcast S32x128 8 (shrui (bitcast S8x128 32 lo bitcasts_S32x128_w8_S8x128_w32) (broadcast S8x128 8#32))
      bitcasts_S8x128_w32_S32x128_w8)))

/-- One block's scales, a row of lanes spread over sixteen. -/
def scales (v : Vec F S1x8x128 .f32) : FVec F S16x128 .bf16 :=
  truncf .bf16 (concatenate S16x128 0 [⟨S8x128, shapeCast S8x128 v shapeCasts_S1x8x128_S8x128⟩,
    ⟨S8x128, shapeCast S8x128 v shapeCasts_S1x8x128_S8x128⟩] concatenates_S8x128_S8x128_S16x128_d0) bitsLt_bf16_f32

/-- The weights of thirty-two byte rows: even rows' high nibbles, even rows' low, odd rows' high, odd rows' low. -/
structure Unit4 (F : FTy → Type) [FloatOps F] where
  eh : FVec F S16x128 .bf16
  el : FVec F S16x128 .bf16
  oh : FVec F S16x128 .bf16
  ol : FVec F S16x128 .bf16

/-- The four pieces from the byte rows and the scales. -/
def unitOf (t0 t1 : IVec S32x128 8) (msk : IVec S32x128 1) (w : Vec F S32x128 .i8) (v : Vec F S1x8x128 .f32) : Unit4 F where
  eh := mulf (evens (gat t0 (nib (F := F) w 4#32)) (gat t1 (nib (F := F) w 4#32))) (scales v)
  el := mulf (evens (gat t0 (nib (F := F) w 0#32)) (gat t1 (nib (F := F) w 0#32))) (scales v)
  oh := mulf (odds msk (gat t0 (nib (F := F) w 4#32)) (gat t1 (nib (F := F) w 4#32))) (scales v)
  ol := mulf (odds msk (gat t0 (nib (F := F) w 0#32)) (gat t1 (nib (F := F) w 0#32))) (scales v)

/-- Four blocks stacked. -/
def stack4 (a b c d : Unit4 F) : FVec F S256x128 .bf16 :=
  concatenate S256x128 0 [⟨S16x128, a.eh⟩, ⟨S16x128, a.el⟩, ⟨S16x128, a.oh⟩, ⟨S16x128, a.ol⟩,
    ⟨S16x128, b.eh⟩, ⟨S16x128, b.el⟩, ⟨S16x128, b.oh⟩, ⟨S16x128, b.ol⟩,
    ⟨S16x128, c.eh⟩, ⟨S16x128, c.el⟩, ⟨S16x128, c.oh⟩, ⟨S16x128, c.ol⟩,
    ⟨S16x128, d.eh⟩, ⟨S16x128, d.el⟩, ⟨S16x128, d.oh⟩, ⟨S16x128, d.ol⟩]
    concatenates_S16x128_S16x128_S16x128_S16x128_S16x128_S16x128_S16x128_S16x128_S16x128_S16x128_S16x128_S16x128_S16x128_S16x128_S16x128_S16x128_S256x128_d0

/-- Four lane groups side by side. -/
def wide4 (a b c d : FVec F S256x128 .bf16) : FVec F S256x512 .bf16 :=
  concatenate S256x512 1 [⟨S256x128, a⟩, ⟨S256x128, b⟩, ⟨S256x128, c⟩, ⟨S256x128, d⟩] concatenates_S256x128_S256x128_S256x128_S256x128_S256x512_d1

/-- One step of the accumulation. -/
def accNext (acc : FVec F S192x512 .f32) (x : Vec F S192x256 .bf16) (w : FVec F S256x512 .bf16) : FVec F S192x512 .f32 :=
  addf acc (matmul dot_S192x256_S256x512_S192x512_1_0_0_1_n_n none (shapeCast S192x256 x shapeCasts_S192x256_S192x256) w
    (constant S192x512 .f32 0x00000000#32))

/-- The accumulator's start. -/
def acc0 : FVec F S192x512 .f32 := broadcast S192x512 (Scalar.ofBits .f32 0x00000000#32 : F .f32)

/-- Half of a column block's scales: the group's second-level scale, picked by its number, times the codes, plus the offset. -/
def amOf (i : grid0.Coords) (cc : BitVec 32) (off : Elt F .f32) (g : Vec F S112x40 .f32) (q : Vec F S112x256 .i8) : FVec F S112x256 .f32 :=
  extf .f32 (truncf .bf16 (addf (mulf (sitofp .f32 (q : IVec S112x256 8)) (broadcastTo S112x256 (shapeCast S112x1
    (multiReduction .add [1] S112 (select (cmpi .eq (iota .tc S112x40 32 [1] iota_S112x40_d1_w32)
      (broadcast S112x40 (Scalar.addi (Scalar.muli (BitVec.ofNat 32 (i 0).val) 2#32) cc))) g
        (broadcast S112x40 (Scalar.ofBits .f32 0x00000000#32 : F .f32))) 0x00000000#32 reduces_S112x40_S112 (.inl rfl) rfl)
    shapeCasts_S112_S112x1) broadcasts_S112x1_S112x256)) (broadcast S112x256 off)) bitsLt_bf16_f32) bitsLt_bf16_f32

/-- The two lane groups of such a half, as the scratch buffer holds them. -/
def amLeft (a : FVec F S112x256 .f32) : FVec F S1x112x128 .f32 :=
  shapeCast S1x112x128 (extractStridedSlice S112x128 ![0, 0] a slices_S112x256_o0_0_S112x128) shapeCasts_S112x128_S1x112x128
/-- The right 128 lanes of the scales. -/
def amRight (a : FVec F S112x256 .f32) : FVec F S1x112x128 .f32 :=
  shapeCast S1x112x128 (extractStridedSlice S112x128 ![0, 128] a slices_S112x256_o0_128_S112x128) shapeCasts_S112x128_S1x112x128

/-! ## The program -/

/-- Programs of the kernel core. -/
abbrev BodyM (F : FTy → Type) [FloatOps F] (α : Type) := Prog (TpuEff nD τ sig (Elt F) Λ₀ .tc) α

/-- A block of packed weights lies in its array. -/
theorem inb_w (b n : ℕ) (hb : b < 112) (hn : n < 4) : ∀ a, (![32 * b, 128 * n] : Fin 2 → Nat) a + S32x128.size a ≤ S3584x512.size a := by
  intro a; fin_cases a
  · show 32 * b + 32 ≤ 3584; omega
  · show 128 * n + 128 ≤ 512; omega

/-- A scale row lies in the scratch. -/
theorem inb_am (b n : ℕ) (hb : b < 112) (hn : n < 4) : ∀ a, S1x8x128.size a = 0
    ∨ (![n, b, 0] : Fin 3 → Nat) a + (![1, 0, 1] : Fin 3 → Nat) a * (S1x8x128.size a - 1) < S4x112x128.size a := by
  intro a; right; fin_cases a
  · show n + 1 * 0 < 4; omega
  · show b + 0 * 7 < 112; omega
  · show 0 + 1 * 127 < 128; omega

/-- A step's activations lie in their array. -/
theorem inb_x (k : ℕ) (hk : k < 28) : ∀ a, (![0, 256 * k] : Fin 2 → Nat) a + S192x256.size a ≤ S192x7168.size a := by
  intro a; fin_cases a
  · show 0 + 192 ≤ 192; omega
  · show 256 * k + 256 ≤ 7168; omega

/-- One block of thirty-two byte rows in one lane group. -/
def unitP (arg2 : Memref sig .tc .vmem S3584x512 .i8) (arg8 : Memref sig .tc .vmem S4x112x128 .f32)
    (t0 t1 : IVec S32x128 8) (msk : IVec S32x128 1) (b n : ℕ) (hb : b < 112) (hn : n < 4) : BodyM F (Unit4 F) := do
  let w : Vec F S32x128 .i8 ← Prog.lift (.load arg2 (Rect.unit (s := S3584x512) ![32 * b, 128 * n] S32x128.size (inb_w b n hb hn)).toLoadRect (View.loadsAt_vmem h_S32x128))
  let v : Vec F S1x8x128 .f32 ← Prog.lift (.load arg8 (⟨![n, b, 0], S1x8x128.size, ![1, 0, 1], inb_am b n hb hn⟩ : LoadRect S4x112x128) (View.loadsAt_vmem h_S1x8x128))
  pure (unitOf t0 t1 msk w v)

/-- Four blocks of one lane group. -/
def tileP (arg2 : Memref sig .tc .vmem S3584x512 .i8) (arg8 : Memref sig .tc .vmem S4x112x128 .f32)
    (t0 t1 : IVec S32x128 8) (msk : IVec S32x128 1) (k n : ℕ) (hk : k < 28) (hn : n < 4) : BodyM F (FVec F S256x128 .bf16) := do
  let a ← unitP arg2 arg8 t0 t1 msk (4 * k + 0) n (by omega) hn
  let b ← unitP arg2 arg8 t0 t1 msk (4 * k + 1) n (by omega) hn
  let c ← unitP arg2 arg8 t0 t1 msk (4 * k + 2) n (by omega) hn
  let d ← unitP arg2 arg8 t0 t1 msk (4 * k + 3) n (by omega) hn
  pure (stack4 a b c d)

/-- One step: the four lane groups' weights, times the step's columns of the activations, added on. -/
def stepP (arg1 : Memref sig .tc .vmem S192x7168 .bf16) (arg2 : Memref sig .tc .vmem S3584x512 .i8) (arg8 : Memref sig .tc .vmem S4x112x128 .f32)
    (t0 t1 : IVec S32x128 8) (msk : IVec S32x128 1) (k : ℕ) (hk : k < 28) (acc : FVec F S192x512 .f32) : BodyM F (FVec F S192x512 .f32) := do
  let a ← tileP arg2 arg8 t0 t1 msk k 0 hk (by omega)
  let b ← tileP arg2 arg8 t0 t1 msk k 1 hk (by omega)
  let c ← tileP arg2 arg8 t0 t1 msk k 2 hk (by omega)
  let d ← tileP arg2 arg8 t0 t1 msk k 3 hk (by omega)
  let x : Vec F S192x256 .bf16 ← Prog.lift (.load arg1 (Rect.unit (s := S192x7168) ![0, 256 * k] S192x256.size (inb_x k hk)).toLoadRect (View.loadsAt_vmem h_S192x256))
  pure (accNext acc x (wide4 a b c d))

/-- The steps below `k`. -/
def accP (arg1 : Memref sig .tc .vmem S192x7168 .bf16) (arg2 : Memref sig .tc .vmem S3584x512 .i8) (arg8 : Memref sig .tc .vmem S4x112x128 .f32)
    (t0 t1 : IVec S32x128 8) (msk : IVec S32x128 1) : (k : ℕ) → k ≤ 28 → BodyM F (FVec F S192x512 .f32)
  | 0, _ => pure acc0
  | k + 1, h => do
    let acc ← accP arg1 arg2 arg8 t0 t1 msk k (by omega)
    stepP arg1 arg2 arg8 t0 t1 msk k (by omega) acc

/-- The scales of one half of the column block into the scratch buffer. -/
def amP0 (i : grid0.Coords) (arg3 : Memref sig .tc .vmem S112x512 .i8) (arg4 : Memref sig .tc .vmem S112x40 .f32)
    (arg8 : Memref sig .tc .vmem S4x112x128 .f32) (off : Elt F .f32) : BodyM F PUnit := do
  let g : Vec F S112x40 .f32 ← Prog.lift (.load arg4 (Rect.unit (s := S112x40) ![0, 0] S112x40.size inb_S112x40_S112x40_0_0).toLoadRect (View.loadsAt_vmem h_S112x40))
  let q : Vec F S112x256 .i8 ← Prog.lift (.load arg3 (Rect.unit (s := S112x512) ![0, 0] S112x256.size inb_S112x512_S112x256_0_0).toLoadRect (View.loadsAt_vmem h_S112x256))
  let _ : Vec F S1x112x128 .f32 ← Prog.lift (.load arg8 (Rect.unit (s := S4x112x128) ![0, 0, 0] S1x112x128.size inb_S4x112x128_S1x112x128_0_0_0).toLoadRect (View.loadsAt_vmem h_S1x112x128))
  Prog.lift (.store arg8 (Rect.unit (s := S4x112x128) ![0, 0, 0] S1x112x128.size inb_S4x112x128_S1x112x128_0_0_0) (amLeft (amOf i 0#32 off g q)) Finset.univ (View.stores_vmem_bits_univ h_S1x112x128 rfl) (.inl rfl))
  let _ : Vec F S1x112x128 .f32 ← Prog.lift (.load arg8 (Rect.unit (s := S4x112x128) ![1, 0, 0] S1x112x128.size inb_S4x112x128_S1x112x128_1_0_0).toLoadRect (View.loadsAt_vmem h_S1x112x128))
  Prog.lift (.store arg8 (Rect.unit (s := S4x112x128) ![1, 0, 0] S1x112x128.size inb_S4x112x128_S1x112x128_1_0_0) (amRight (amOf i 0#32 off g q)) Finset.univ (View.stores_vmem_bits_univ h_S1x112x128 rfl) (.inl rfl))

/-- The scales of the other half. -/
def amP1 (i : grid0.Coords) (arg3 : Memref sig .tc .vmem S112x512 .i8) (arg4 : Memref sig .tc .vmem S112x40 .f32)
    (arg8 : Memref sig .tc .vmem S4x112x128 .f32) (off : Elt F .f32) : BodyM F PUnit := do
  let g : Vec F S112x40 .f32 ← Prog.lift (.load arg4 (Rect.unit (s := S112x40) ![0, 0] S112x40.size inb_S112x40_S112x40_0_0).toLoadRect (View.loadsAt_vmem h_S112x40))
  let q : Vec F S112x256 .i8 ← Prog.lift (.load arg3 (Rect.unit (s := S112x512) ![0, 256] S112x256.size inb_S112x512_S112x256_0_256).toLoadRect (View.loadsAt_vmem h_S112x256))
  let _ : Vec F S1x112x128 .f32 ← Prog.lift (.load arg8 (Rect.unit (s := S4x112x128) ![2, 0, 0] S1x112x128.size inb_S4x112x128_S1x112x128_2_0_0).toLoadRect (View.loadsAt_vmem h_S1x112x128))
  Prog.lift (.store arg8 (Rect.unit (s := S4x112x128) ![2, 0, 0] S1x112x128.size inb_S4x112x128_S1x112x128_2_0_0) (amLeft (amOf i 1#32 off g q)) Finset.univ (View.stores_vmem_bits_univ h_S1x112x128 rfl) (.inl rfl))
  let _ : Vec F S1x112x128 .f32 ← Prog.lift (.load arg8 (Rect.unit (s := S4x112x128) ![3, 0, 0] S1x112x128.size inb_S4x112x128_S1x112x128_3_0_0).toLoadRect (View.loadsAt_vmem h_S1x112x128))
  Prog.lift (.store arg8 (Rect.unit (s := S4x112x128) ![3, 0, 0] S1x112x128.size inb_S4x112x128_S1x112x128_3_0_0) (amRight (amOf i 1#32 off g q)) Finset.univ (View.stores_vmem_bits_univ h_S1x112x128 rfl) (.inl rfl))

/-- A table's row of bytes. -/
def tabOf (v : Vec F S1x32x128 .i8) : IVec S32x128 8 := shapeCast S32x128 (v : IVec S1x32x128 8) shapeCasts_S1x32x128_S32x128

/-- Before the steps: the tables read, the scales written to the scratch buffer. -/
def preP (i : grid0.Coords) (arg3 : Memref sig .tc .vmem S112x512 .i8)
    (arg4 : Memref sig .tc .vmem S112x40 .f32) (arg5 : Memref sig .tc .smem S1x1 .f32) (arg6 : Memref sig .tc .vmem S2x32x128 .i8)
    (arg8 : Memref sig .tc .vmem S4x112x128 .f32) : BodyM F (IVec S32x128 8 × IVec S32x128 8) := do
  let v0 : Vec F S1x32x128 .i8 ← Prog.lift (.load arg6 (Rect.unit (s := S2x32x128) ![0, 0, 0] S1x32x128.size inb_S2x32x128_S1x32x128_0_0_0).toLoadRect (View.loadsAt_vmem h_S1x32x128))
  let v2 : Vec F S1x32x128 .i8 ← Prog.lift (.load arg6 (Rect.unit (s := S2x32x128) ![1, 0, 0] S1x32x128.size inb_S2x32x128_S1x32x128_1_0_0).toLoadRect (View.loadsAt_vmem h_S1x32x128))
  let v8 : Elt F .f32 ← smemLoad arg5 (Rect.unit (s := S1x1) ![0, 0] S1x1.size inb_S1x1_S1x1_0_0) numel1_S1x1 rfl
  amP0 i arg3 arg4 arg8 v8
  amP1 i arg3 arg4 arg8 v8
  pure (tabOf (F := F) v0, tabOf (F := F) v2)

/-- After the steps: the accumulator, narrowed, into the output window. -/
def postP (arg7 : Memref sig .tc .vmem S192x512 .bf16) (harg7 : arg7.IsWhole) (acc : FVec F S192x512 .f32) : BodyM F PUnit := do
  let _ : Vec F S192x512 .bf16 ← Prog.lift (.load arg7 (Rect.unit (s := S192x512) ![0, 0] S192x512.size inb_S192x512_S192x512_0_0).toLoadRect (View.loadsAt_vmem h_S192x512))
  Prog.lift (.store arg7 (Rect.unit (s := S192x512) ![0, 0] S192x512.size inb_S192x512_S192x512_0_0) (truncf .bf16 acc bitsLt_bf16_f32) Finset.univ (View.stores_vmem h_S192x512 (harg7.storeExact_slice rfl _ packedbf16_S192x512_S192x512_0_0) (fun _ => rfl)) (.inl rfl))
  pure ⟨⟩

/-- How many steps a column block takes. -/
@[irreducible] def nSteps : ℕ := 28

/-- There are 28 steps. -/
theorem nSteps_eq : nSteps = 28 := by unfold nSteps; rfl
theorem nSteps_le : nSteps ≤ 28 := nSteps_eq.le

/-- The whole body. -/
def bodyP (i : grid0.Coords) (arg1 : Memref sig .tc .vmem S192x7168 .bf16) (arg2 : Memref sig .tc .vmem S3584x512 .i8) (arg3 : Memref sig .tc .vmem S112x512 .i8)
    (arg4 : Memref sig .tc .vmem S112x40 .f32) (arg5 : Memref sig .tc .smem S1x1 .f32) (arg6 : Memref sig .tc .vmem S2x32x128 .i8)
    (arg7 : Memref sig .tc .vmem S192x512 .bf16) (harg7 : arg7.IsWhole) (arg8 : Memref sig .tc .vmem S4x112x128 .f32) : BodyM F PUnit := do
  let t ← preP i arg3 arg4 arg5 arg6 arg8
  let acc ← accP arg1 arg2 arg8 t.1 t.2 oddMask nSteps nSteps_le
  postP arg7 harg7 acc

set_option maxRecDepth 1000000 in
set_option maxHeartbeats 20000000 in
/-- The printed body is the program with loops: unfolding. -/
theorem body_eq (i : grid0.Coords) (arg1 : Memref sig .tc .vmem S192x7168 .bf16) (harg1 : arg1.IsWhole) (arg2 : Memref sig .tc .vmem S3584x512 .i8) (harg2 : arg2.IsWhole) (arg3 : Memref sig .tc .vmem S112x512 .i8) (harg3 : arg3.IsWhole) (arg4 : Memref sig .tc .vmem S112x40 .f32) (harg4 : arg4.IsWhole) (arg5 : Memref sig .tc .smem S1x1 .f32) (harg5 : arg5.IsWhole) (arg6 : Memref sig .tc .vmem S2x32x128 .i8) (harg6 : arg6.IsWhole) (arg7 : Memref sig .tc .vmem S192x512 .bf16) (harg7 : arg7.IsWhole) (arg8 : Memref sig .tc .vmem S4x112x128 .f32) (harg8 : arg8.IsWhole) :
    cc0__body (F := F) i arg1 harg1 arg2 harg2 arg3 harg3 arg4 harg4 arg5 harg5 arg6 harg6 arg7 harg7 arg8 harg8
      = bodyP i arg1 arg2 arg3 arg4 arg5 arg6 arg7 harg7 arg8 := by
  sl_kernel_rfl

end Cert.Proof

end
-- ==== Proof.Body.lean ====
/-
  What one run of the kernel body leaves.
-/
module

public import proofs.«01_k».proof.Proof.Prog
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.WordCmp
public import Idealize.ShloMosaic.Lib.VecWindow

@[expose] public section

set_option maxRecDepth 16384

noncomputable section

namespace Cert.Proof

open Cert.KernelIdeal Cert.KernelIdeal.Facts Cert.KernelIdeal.Shapes1.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Cert.KernelIdeal.Facts]

local notation "𝕄" => MT nD τ sig Unit (Elt F) ℕ (UR sig nD τ) ℕ

/-! ## Programs that only read -/

/-- Run under `R`, the program returns `v` and gives `R` back. -/
def Reads {α : Type} (c : Dev nD) (R : sProp 𝕄) (p : BodyM F α) (v : α) : Prop :=
  ∀ (E : Set ℕ) (K : α → sProp 𝕄), iprop(R ∗ (R -∗ K v)) ⊢ wp frame (wpE (defs₀ (F := F)) Variants.none (c : Thread nD τ) none) E p K

/-- A returned value reads nothing and is itself. -/
theorem Reads.pure {α : Type} (c : Dev nD) (R : sProp 𝕄) (v : α) : Reads c R (Pure.pure v : BodyM F α) v := by
  intro E K
  rw [wp_pure]
  iintro ⟨HR, Hk⟩
  imodintro
  iapply Hk
  iexact HR

/-- One reading after another reads what both read. -/
theorem Reads.bind {α β : Type} {c : Dev nD} {R : sProp 𝕄} {p : BodyM F α} {v : α} {q : α → BodyM F β} {w : β}
    (hp : Reads c R p v) (hq : Reads c R (q v) w) : Reads c R (p >>= q) w := by
  intro E K
  rw [wp_bind]
  refine BIBase.Entails.trans ?_ (hp E _)
  iintro ⟨HR, Hk⟩
  isplitl [HR]; · iexact HR
  iintro HR
  iapply (hq E K)
  isplitl [HR]; · iexact HR
  iexact Hk

/-- A load of part of a buffer held whole. -/
theorem reads_load {s : Shape} {e : EltTy} (c : Dev nD) (m : Memref sig .tc .vmem s e) (x : s.Idx → Elt F e) (r : LoadRect s)
    (hl : m.view.LoadsAt r) :
    Reads c (owns (c : Thread nD τ) m fullShare x) (Prog.lift (.load m r hl) : BodyM F _) (fun j => x (r.idx j)) := by
  intro E K
  unfold owns
  iintro ⟨⟨%f, %hf, H⟩, Hk⟩
  obtain rfl := hf
  rw [show (fun j => m.view.read (Elt F) f (r.idx j)) = m.view.readAt (Elt F) r f from rfl]
  sl_exec
  sl_step
  iapply Hk
  iexists f
  isplitr; · ipureintro; rfl
  iexact H

/-- Reading under more than is read. -/
theorem Reads.frame {α : Type} {c : Dev nD} {R R' : sProp 𝕄} {p : BodyM F α} {v : α} (A : sProp 𝕄)
    (hR : R' ⊢ iprop(R ∗ A)) (hR' : iprop(R ∗ A) ⊢ R') (hp : Reads c R p v) : Reads c R' p v := by
  intro E K
  iintro ⟨HR, Hk⟩
  ihave H := hR $$ HR
  icases H with ⟨H, HA⟩
  iapply (hp E K)
  isplitl [H]; · iexact H
  iintro H
  iapply Hk
  iapply hR'
  isplitl [H]; · iexact H
  iexact HA

/-! ## The steps -/

/-- The block's byte rows. -/
def wAt (x1 : Vec F S3584x512 .i8) (b n : ℕ) (hb : b < 112) (hn : n < 4) : Vec F S32x128 .i8 :=
  fun j => x1 ((Rect.unit (s := S3584x512) ![32 * b, 128 * n] S32x128.size (inb_w b n hb hn)).toLoadRect.idx j)

/-- The block's scales, one row read eight times. -/
def amAt (am : Vec F S4x112x128 .f32) (b n : ℕ) (hb : b < 112) (hn : n < 4) : Vec F S1x8x128 .f32 :=
  fun j => am ((⟨![n, b, 0], S1x8x128.size, ![1, 0, 1], inb_am b n hb hn⟩ : LoadRect S4x112x128).idx j)

/-- The step's columns of the activations. -/
def xAt (x0 : Vec F S192x7168 .bf16) (k : ℕ) (hk : k < 28) : Vec F S192x256 .bf16 :=
  fun j => x0 ((Rect.unit (s := S192x7168) ![0, 256 * k] S192x256.size (inb_x k hk)).toLoadRect.idx j)

/-- One block's weights. -/
def unitV (x1 : Vec F S3584x512 .i8) (am : Vec F S4x112x128 .f32) (t0 t1 : IVec S32x128 8) (msk : IVec S32x128 1)
    (b n : ℕ) (hb : b < 112) (hn : n < 4) : Unit4 F :=
  unitOf t0 t1 msk (wAt x1 b n hb hn) (amAt am b n hb hn)

/-- Four blocks' weights. -/
def tileV (x1 : Vec F S3584x512 .i8) (am : Vec F S4x112x128 .f32) (t0 t1 : IVec S32x128 8) (msk : IVec S32x128 1)
    (k n : ℕ) (hk : k < 28) (hn : n < 4) : FVec F S256x128 .bf16 :=
  stack4 (unitV x1 am t0 t1 msk (4 * k + 0) n (by omega) hn) (unitV x1 am t0 t1 msk (4 * k + 1) n (by omega) hn)
    (unitV x1 am t0 t1 msk (4 * k + 2) n (by omega) hn) (unitV x1 am t0 t1 msk (4 * k + 3) n (by omega) hn)

/-- The step's weights. -/
def wideV (x1 : Vec F S3584x512 .i8) (am : Vec F S4x112x128 .f32) (t0 t1 : IVec S32x128 8) (msk : IVec S32x128 1)
    (k : ℕ) (hk : k < 28) : FVec F S256x512 .bf16 :=
  wide4 (tileV x1 am t0 t1 msk k 0 hk (by omega)) (tileV x1 am t0 t1 msk k 1 hk (by omega))
    (tileV x1 am t0 t1 msk k 2 hk (by omega)) (tileV x1 am t0 t1 msk k 3 hk (by omega))

/-- The accumulator before step `k`. -/
def accV (x0 : Vec F S192x7168 .bf16) (x1 : Vec F S3584x512 .i8) (am : Vec F S4x112x128 .f32) (t0 t1 : IVec S32x128 8)
    (msk : IVec S32x128 1) : (k : ℕ) → k ≤ 28 → FVec F S192x512 .f32
  | 0, _ => acc0
  | k + 1, h => accNext (accV x0 x1 am t0 t1 msk k (by omega)) (xAt x0 k (by omega)) (wideV x1 am t0 t1 msk k (by omega))

section Steps

variable (c : Dev nD) (arg1 : Memref sig .tc .vmem S192x7168 .bf16) (arg2 : Memref sig .tc .vmem S3584x512 .i8)
  (arg8 : Memref sig .tc .vmem S4x112x128 .f32)
  (x0 : Vec F S192x7168 .bf16) (x1 : Vec F S3584x512 .i8) (am : Vec F S4x112x128 .f32)
  (t0 t1 : IVec S32x128 8) (msk : IVec S32x128 1)

/-- What the steps hold: the activations, the byte rows and the scales. -/
def StepR : sProp 𝕄 :=
  iprop(owns (c : Thread nD τ) arg1 fullShare x0 ∗ owns (c : Thread nD τ) arg2 fullShare x1 ∗ owns (c : Thread nD τ) arg8 fullShare am)

/-- Loading a rectangle of the activations gives the block there. -/
theorem reads_x (r : LoadRect S192x7168) (hl : arg1.view.LoadsAt r) :
    Reads c (StepR c arg1 arg2 arg8 x0 x1 am) (Prog.lift (.load arg1 r hl) : BodyM F _) (fun j => x0 (r.idx j)) := by
  refine (reads_load c arg1 x0 r hl).frame iprop(owns (c : Thread nD τ) arg2 fullShare x1 ∗ owns (c : Thread nD τ) arg8 fullShare am) ?_ ?_
  · exact .rfl
  · exact .rfl

/-- Loading a rectangle of the packed weights gives the block there. -/
theorem reads_w (r : LoadRect S3584x512) (hl : arg2.view.LoadsAt r) :
    Reads c (StepR c arg1 arg2 arg8 x0 x1 am) (Prog.lift (.load arg2 r hl) : BodyM F _) (fun j => x1 (r.idx j)) := by
  refine (reads_load c arg2 x1 r hl).frame iprop(owns (c : Thread nD τ) arg1 fullShare x0 ∗ owns (c : Thread nD τ) arg8 fullShare am) ?_ ?_
  · unfold StepR
    iintro ⟨H1, H2, H8⟩
    isplitl [H2]; · iexact H2
    isplitl [H1]; · iexact H1
    iexact H8
  · unfold StepR
    iintro ⟨H2, H1, H8⟩
    isplitl [H1]; · iexact H1
    isplitl [H2]; · iexact H2
    iexact H8

/-- Loading a rectangle of the scale scratch gives what it holds there. -/
theorem reads_am (r : LoadRect S4x112x128) (hl : arg8.view.LoadsAt r) :
    Reads c (StepR c arg1 arg2 arg8 x0 x1 am) (Prog.lift (.load arg8 r hl) : BodyM F _) (fun j => am (r.idx j)) := by
  refine (reads_load c arg8 am r hl).frame iprop(owns (c : Thread nD τ) arg1 fullShare x0 ∗ owns (c : Thread nD τ) arg2 fullShare x1) ?_ ?_
  · unfold StepR
    iintro ⟨H1, H2, H8⟩
    isplitl [H8]; · iexact H8
    isplitl [H1]; · iexact H1
    iexact H2
  · unfold StepR
    iintro ⟨H8, H1, H2⟩
    isplitl [H1]; · iexact H1
    isplitl [H2]; · iexact H2
    iexact H8

/-- One 64-row block of one column tile reads its weights and its scales. -/
theorem reads_unit (b n : ℕ) (hb : b < 112) (hn : n < 4) :
    Reads c (StepR c arg1 arg2 arg8 x0 x1 am) (unitP arg2 arg8 t0 t1 msk b n hb hn) (unitV x1 am t0 t1 msk b n hb hn) := by
  unfold unitP
  refine (reads_w c arg1 arg2 arg8 x0 x1 am _ _).bind ?_
  refine (reads_am c arg1 arg2 arg8 x0 x1 am _ _).bind ?_
  exact Reads.pure _ _ _

/-- Four blocks of one column tile, one after another. -/
theorem reads_tile (k n : ℕ) (hk : k < 28) (hn : n < 4) :
    Reads c (StepR c arg1 arg2 arg8 x0 x1 am) (tileP arg2 arg8 t0 t1 msk k n hk hn) (tileV x1 am t0 t1 msk k n hk hn) := by
  unfold tileP
  refine (reads_unit c arg1 arg2 arg8 x0 x1 am t0 t1 msk _ _ _ _).bind ?_
  refine (reads_unit c arg1 arg2 arg8 x0 x1 am t0 t1 msk _ _ _ _).bind ?_
  refine (reads_unit c arg1 arg2 arg8 x0 x1 am t0 t1 msk _ _ _ _).bind ?_
  refine (reads_unit c arg1 arg2 arg8 x0 x1 am t0 t1 msk _ _ _ _).bind ?_
  exact Reads.pure _ _ _

/-- One step of the accumulation: four column tiles and one product. -/
theorem reads_step (k : ℕ) (hk : k < 28) (acc : FVec F S192x512 .f32) :
    Reads c (StepR c arg1 arg2 arg8 x0 x1 am) (stepP arg1 arg2 arg8 t0 t1 msk k hk acc)
      (accNext acc (xAt x0 k hk) (wideV x1 am t0 t1 msk k hk)) := by
  unfold stepP
  refine (reads_tile c arg1 arg2 arg8 x0 x1 am t0 t1 msk _ _ _ _).bind ?_
  refine (reads_tile c arg1 arg2 arg8 x0 x1 am t0 t1 msk _ _ _ _).bind ?_
  refine (reads_tile c arg1 arg2 arg8 x0 x1 am t0 t1 msk _ _ _ _).bind ?_
  refine (reads_tile c arg1 arg2 arg8 x0 x1 am t0 t1 msk _ _ _ _).bind ?_
  refine (reads_x c arg1 arg2 arg8 x0 x1 am _ _).bind ?_
  exact Reads.pure _ _ _

/-- The first `k` steps of the accumulation. -/
theorem reads_acc (k : ℕ) (h : k ≤ 28) :
    Reads c (StepR c arg1 arg2 arg8 x0 x1 am) (accP arg1 arg2 arg8 t0 t1 msk k h) (accV x0 x1 am t0 t1 msk k h) := by
  induction k with
  | zero => exact Reads.pure _ _ _
  | succ k ih => exact (ih (by omega)).bind (reads_step c arg1 arg2 arg8 x0 x1 am t0 t1 msk k (by omega) _)

end Steps

/-! ## Before and after the steps -/

/-- A place of one lane group. -/
def laneIx (j : S4x112x128.Idx) : S1x112x128.Idx
  | ⟨0, _⟩ => ⟨0, Nat.one_pos⟩ | ⟨1, _⟩ => j 1 | ⟨2, _⟩ => j 2

/-- Four lane groups as one array. -/
def slabs (p0 p1 p2 p3 : Vec F S1x112x128 .f32) : Vec F S4x112x128 .f32 := fun j =>
  match (j 0).val with
  | 0 => p0 (laneIx j)
  | 1 => p1 (laneIx j)
  | 2 => p2 (laneIx j)
  | _ => p3 (laneIx j)

/-- Four stores, a lane group each, leave the four lane groups. -/
theorem read_slabs {sp : Space} (v : View sig .tc sp S4x112x128 .f32) (f : v.ty.Contents (Elt F)) (p0 p1 p2 p3 : Vec F S1x112x128 .f32)
    (h0 : ∀ a, (![0, 0, 0] : Fin 3 → ℕ) a + S1x112x128.size a ≤ S4x112x128.size a) (h1 : ∀ a, (![1, 0, 0] : Fin 3 → ℕ) a + S1x112x128.size a ≤ S4x112x128.size a)
    (h2 : ∀ a, (![2, 0, 0] : Fin 3 → ℕ) a + S1x112x128.size a ≤ S4x112x128.size a) (h3 : ∀ a, (![3, 0, 0] : Fin 3 → ℕ) a + S1x112x128.size a ≤ S4x112x128.size a) :
    v.read (Elt F) (v.writes (Elt F) f [⟨Rect.unit ![3, 0, 0] S1x112x128.size h3, p3⟩, ⟨Rect.unit ![2, 0, 0] S1x112x128.size h2, p2⟩,
      ⟨Rect.unit ![1, 0, 0] S1x112x128.size h1, p1⟩, ⟨Rect.unit ![0, 0, 0] S1x112x128.size h0, p0⟩]) = slabs p0 p1 p2 p3 := by
  funext y
  have hy : (y 0).val < 4 := (y 0).isLt
  have hit : ∀ (n : ℕ) (hn : ∀ a, (![n, 0, 0] : Fin 3 → ℕ) a + S1x112x128.size a ≤ S4x112x128.size a), (y 0).val = n →
      ∀ a, (y a).val = (Rect.unit (s := S4x112x128) ![n, 0, 0] S1x112x128.size hn).off a
        + (Rect.unit (s := S4x112x128) ![n, 0, 0] S1x112x128.size hn).stride a * (laneIx y a).val := by
    intro n hn h a
    match a with
    | ⟨0, _⟩ => show (y 0).val = n + 1 * 0; omega
    | ⟨1, _⟩ => show (y 1).val = 0 + 1 * (y 1).val; omega
    | ⟨2, _⟩ => show (y 2).val = 0 + 1 * (y 2).val; omega
  have miss : ∀ (n : ℕ) (hn : ∀ a, (![n, 0, 0] : Fin 3 → ℕ) a + S1x112x128.size a ≤ S4x112x128.size a) (w : Vec F S1x112x128 .f32) L, (y 0).val ≠ n →
      v.read (Elt F) (v.writes (Elt F) f (⟨Rect.unit ![n, 0, 0] S1x112x128.size hn, w⟩ :: L)) y = v.read (Elt F) (v.writes (Elt F) f L) y := by
    intro n hn w L h
    refine View.read_writes_cons_miss_of_axis v f _ L y (0 : Fin 3) n 1 rfl rfl rfl ?_
    omega
  obtain h | h | h | h : (y 0).val = 0 ∨ (y 0).val = 1 ∨ (y 0).val = 2 ∨ (y 0).val = 3 := by omega
  · rw [miss 3 h3 _ _ (by omega), miss 2 h2 _ _ (by omega), miss 1 h1 _ _ (by omega),
      View.read_writes_cons_hit_of_coords v f _ _ _ (laneIx y) y (hit 0 h0 h)]
    simp only [slabs, h]
  · rw [miss 3 h3 _ _ (by omega), miss 2 h2 _ _ (by omega), View.read_writes_cons_hit_of_coords v f _ _ _ (laneIx y) y (hit 1 h1 h)]
    simp only [slabs, h]
  · rw [miss 3 h3 _ _ (by omega), View.read_writes_cons_hit_of_coords v f _ _ _ (laneIx y) y (hit 2 h2 h)]
    simp only [slabs, h]
  · rw [View.read_writes_cons_hit_of_coords v f _ _ _ (laneIx y) y (hit 3 h3 h)]
    simp only [slabs, h]

/-- The codes of half of the column block. -/
def codesAt0 (x2 : Vec F S112x512 .i8) : Vec F S112x256 .i8 :=
  fun j => x2 ((Rect.unit (s := S112x512) ![0, 0] S112x256.size inb_S112x512_S112x256_0_0).toLoadRect.idx j)
/-- The scale codes of the right half of the columns. -/
def codesAt1 (x2 : Vec F S112x512 .i8) : Vec F S112x256 .i8 :=
  fun j => x2 ((Rect.unit (s := S112x512) ![0, 256] S112x256.size inb_S112x512_S112x256_0_256).toLoadRect.idx j)

/-- The second-level scales and the offset as loaded. -/
def groupsAt (x3 : Vec F S112x40 .f32) : Vec F S112x40 .f32 :=
  fun j => x3 ((Rect.unit (s := S112x40) ![0, 0] S112x40.size inb_S112x40_S112x40_0_0).toLoadRect.idx j)
/-- The one offset. -/
def offAt (x4 : Vec F S1x1 .f32) : Elt F .f32 :=
  x4 ((Rect.unit (s := S1x1) ![0, 0] S1x1.size inb_S1x1_S1x1_0_0).toLoadRect.idx (Shape.Idx.first (by show 0 < S1x1.numel; rw [numel1_S1x1]; exact Nat.one_pos)))

/-- The scales the scratch buffer holds. -/
def amV (i : grid0.Coords) (x2 : Vec F S112x512 .i8) (x3 : Vec F S112x40 .f32) (x4 : Vec F S1x1 .f32) : Vec F S4x112x128 .f32 :=
  slabs (amLeft (amOf i 0#32 (offAt x4) (groupsAt x3) (codesAt0 x2))) (amRight (amOf i 0#32 (offAt x4) (groupsAt x3) (codesAt0 x2)))
    (amLeft (amOf i 1#32 (offAt x4) (groupsAt x3) (codesAt1 x2))) (amRight (amOf i 1#32 (offAt x4) (groupsAt x3) (codesAt1 x2)))

/-- A table of the two. -/
def tabV0 (x5 : Vec F S2x32x128 .i8) : IVec S32x128 8 :=
  tabOf (F := F) fun j => x5 ((Rect.unit (s := S2x32x128) ![0, 0, 0] S1x32x128.size inb_S2x32x128_S1x32x128_0_0_0).toLoadRect.idx j)
/-- The table of high bytes. -/
def tabV1 (x5 : Vec F S2x32x128 .i8) : IVec S32x128 8 :=
  tabOf (F := F) fun j => x5 ((Rect.unit (s := S2x32x128) ![1, 0, 0] S1x32x128.size inb_S2x32x128_S1x32x128_1_0_0).toLoadRect.idx j)

set_option maxHeartbeats 2000000 in
theorem pre_run (c : Dev nD) (i : grid0.Coords) (arg3 : Memref sig .tc .vmem S112x512 .i8) (arg4 : Memref sig .tc .vmem S112x40 .f32)
    (arg5 : Memref sig .tc .smem S1x1 .f32) (arg6 : Memref sig .tc .vmem S2x32x128 .i8) (arg8 : Memref sig .tc .vmem S4x112x128 .f32)
    (harg3 : arg3.IsWhole) (harg4 : arg4.IsWhole) (harg5 : arg5.IsWhole) (harg6 : arg6.IsWhole) (harg8 : arg8.IsWhole)
    (x2 : Vec F S112x512 .i8) (x3 : Vec F S112x40 .f32) (x4 : Vec F S1x1 .f32) (x5 : Vec F S2x32x128 .i8)
    (E : Set ℕ) (K : IVec S32x128 8 × IVec S32x128 8 → sProp 𝕄) :
    iprop(owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg8 fullShare d)
        ∗ (iprop(owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg8 fullShare (amV i x2 x3 x4)) -∗ K (tabV0 x5, tabV1 x5)))
      ⊢ wp frame (wpE (defs₀ (F := F)) Variants.none (c : Thread nD τ) none) E (preP i arg3 arg4 arg5 arg6 arg8) K := by
  unfold preP amP0 amP1 owns
  iintro ⟨⟨%f2, %hf2, H2⟩, ⟨%f3, %hf3, H3⟩, ⟨%f4, %hf4, H4⟩, ⟨%f5, %hf5, H5⟩, ⟨%ds0, %fs0, -, HS0⟩, Hk⟩
  obtain rfl := hf2; obtain rfl := hf3; obtain rfl := hf4; obtain rfl := hf5
  rw [show (tabV0 (arg6.view.read (Elt F) f5), tabV1 (arg6.view.read (Elt F) f5))
    = (tabOf (F := F) (arg6.view.readAt (Elt F) (Rect.unit (s := S2x32x128) ![0, 0, 0] S1x32x128.size inb_S2x32x128_S1x32x128_0_0_0).toLoadRect f5),
      tabOf (F := F) (arg6.view.readAt (Elt F) (Rect.unit (s := S2x32x128) ![1, 0, 0] S1x32x128.size inb_S2x32x128_S1x32x128_1_0_0).toLoadRect f5)) from rfl]
  sl_exec
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  iexists _; isplitr; swap; · iexact HS0
  ipureintro
  exact read_slabs arg8.view fs0 _ _ _ _ _ _ _ _

/-- The last store leaves the accumulator, cast, in the output block. -/
theorem post_run (c : Dev nD) (arg7 : Memref sig .tc .vmem S192x512 .bf16) (harg7 : arg7.IsWhole) (acc : FVec F S192x512 .f32)
    (E : Set ℕ) (K : PUnit → sProp 𝕄) :
    iprop((∃ d, owns (c : Thread nD τ) arg7 fullShare d) ∗ (owns (c : Thread nD τ) arg7 fullShare (truncf .bf16 acc bitsLt_bf16_f32 : FVec F S192x512 .bf16) -∗ K ⟨⟩))
      ⊢ wp frame (wpE (defs₀ (F := F)) Variants.none (c : Thread nD τ) none) E (postP arg7 harg7 acc) K := by
  unfold postP owns
  iintro ⟨⟨%d6, %f6, -, H6⟩, Hk⟩
  sl_exec
  sl_step
  iapply Hk
  iexists _; isplitr; swap; · iexact H6
  ipureintro
  exact View.read_writes_full arg7.view f6 _ _ _

/-- The output block one run leaves: of the column block's bytes and scales, the activations times the weights. -/
def outV (i : grid0.Coords) (x0 : Vec F S192x7168 .bf16) (x1 : Vec F S3584x512 .i8) (x2 : Vec F S112x512 .i8) (x3 : Vec F S112x40 .f32)
    (x4 : Vec F S1x1 .f32) (x5 : Vec F S2x32x128 .i8) : FVec F S192x512 .bf16 :=
  truncf .bf16 (accV x0 x1 (amV i x2 x3 x4) (tabV0 x5) (tabV1 x5) oddMask nSteps nSteps_le) bitsLt_bf16_f32

/-- A reading program between two others. -/
theorem reads_then {α β : Type} {c : Dev nD} {R Q : sProp 𝕄} {p : BodyM F α} {v : α} (hp : Reads c R p v) (q : α → BodyM F β) (E : Set ℕ) (K : β → sProp 𝕄)
    (hq : iprop(R ∗ Q) ⊢ wp frame (wpE (defs₀ (F := F)) Variants.none (c : Thread nD τ) none) E (q v) K) :
    iprop(R ∗ Q) ⊢ wp frame (wpE (defs₀ (F := F)) Variants.none (c : Thread nD τ) none) E (p >>= q) K := by
  rw [wp_bind]
  refine BIBase.Entails.trans ?_ (hp E _)
  iintro ⟨HR, HQ⟩
  isplitl [HR]; · iexact HR
  iintro HR
  iapply hq
  isplitl [HR]; · iexact HR
  iexact HQ

/-- The steps and what comes after. -/
theorem mid_post (c : Dev nD) (arg7 : Memref sig .tc .vmem S192x512 .bf16) (harg7 : arg7.IsWhole) {R : sProp 𝕄} {p : BodyM F (FVec F S192x512 .f32)}
    {v : FVec F S192x512 .f32} (hp : Reads c R p v) (E : Set ℕ) (K : PUnit → sProp 𝕄) :
    iprop(R ∗ (∃ d, owns (c : Thread nD τ) arg7 fullShare d) ∗ (iprop(R ∗ owns (c : Thread nD τ) arg7 fullShare (truncf .bf16 v bitsLt_bf16_f32 : FVec F S192x512 .bf16)) -∗ K ⟨⟩))
      ⊢ wp frame (wpE (defs₀ (F := F)) Variants.none (c : Thread nD τ) none) E (p >>= fun acc => postP arg7 harg7 acc) K := by
  refine reads_then hp _ E K ?_
  iintro ⟨HR, H6, Hk⟩
  iapply (post_run c arg7 harg7 v E K)
  isplitl [H6]; · iexact H6
  iintro H6
  iapply Hk
  isplitl [HR]; · iexact HR
  iexact H6

end Cert.Proof

end
-- ==== Proof.BodyRun.lean ====
/-
  What one run of the kernel body leaves.
-/
module

public import proofs.«01_k».proof.Proof.Body
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.WordCmp
public import Idealize.ShloMosaic.Lib.VecWindow

@[expose] public section

set_option maxRecDepth 16384

noncomputable section

namespace Cert.Proof

open Cert.KernelIdeal Cert.KernelIdeal.Facts Cert.KernelIdeal.Shapes1.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Cert.KernelIdeal.Facts]

local notation "𝕄" => MT nD τ sig Unit (Elt F) ℕ (UR sig nD τ) ℕ

/-! ## Programs that only read -/

/-- One run of the body: the inputs come back as they were, the output window holds `outV`, the scratch something. -/
theorem body_run (c : Dev nD) (i : grid0.Coords) (arg1 : Memref sig .tc .vmem S192x7168 .bf16) (harg1 : arg1.IsWhole) (arg2 : Memref sig .tc .vmem S3584x512 .i8) (harg2 : arg2.IsWhole) (arg3 : Memref sig .tc .vmem S112x512 .i8) (harg3 : arg3.IsWhole) (arg4 : Memref sig .tc .vmem S112x40 .f32) (harg4 : arg4.IsWhole) (arg5 : Memref sig .tc .smem S1x1 .f32) (harg5 : arg5.IsWhole) (arg6 : Memref sig .tc .vmem S2x32x128 .i8) (harg6 : arg6.IsWhole) (arg7 : Memref sig .tc .vmem S192x512 .bf16) (harg7 : arg7.IsWhole) (arg8 : Memref sig .tc .vmem S4x112x128 .f32) (harg8 : arg8.IsWhole)
    (x0 : Vec F S192x7168 .bf16) (x1 : Vec F S3584x512 .i8) (x2 : Vec F S112x512 .i8) (x3 : Vec F S112x40 .f32) (x4 : Vec F S1x1 .f32) (x5 : Vec F S2x32x128 .i8)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outV i x0 x1 x2 x3 x4 x5) ∗ (∃ d, owns (c : Thread nD τ) arg8 fullShare d)) -∗ K ⟨⟩))
      ⊢ wp frame (wpE (defs₀ (F := F)) Variants.none (c : Thread nD τ) none) E (cc0__body i arg1 harg1 arg2 harg2 arg3 harg3 arg4 harg4 arg5 harg5 arg6 harg6 arg7 harg7 arg8 harg8) K := by
  rw [body_eq]
  unfold bodyP
  rw [wp_bind]
  iintro ⟨H0, H1, H2, H3, H4, H5, H6, HS, Hk⟩
  iapply (pre_run c i arg3 arg4 arg5 arg6 arg8 harg3 harg4 harg5 harg6 harg8 x2 x3 x4 x5 E _)
  isplitl [H2]; · iexact H2
  isplitl [H3]; · iexact H3
  isplitl [H4]; · iexact H4
  isplitl [H5]; · iexact H5
  isplitl [HS]; · iexact HS
  iintro ⟨H2, H3, H4, H5, HS⟩
  dsimp only
  have hr := reads_acc c arg1 arg2 arg8 x0 x1 (amV i x2 x3 x4) (tabV0 x5) (tabV1 x5) oddMask nSteps nSteps_le
  have hm := mid_post c arg7 harg7 hr E K
  unfold StepR at hm
  iapply hm
  isplitl [H0 H1 HS]
  · isplitl [H0]; · iexact H0
    isplitl [H1]; · iexact H1
    iexact HS
  isplitl [H6]; · iexact H6
  iintro ⟨⟨H0, H1, HS⟩, H6⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact HS

end Cert.Proof

end
-- ==== Proof.Run.lean ====
/-
  The run of the kernel: every point leaves its output block, and the arguments end as they were.
-/
module

public import proofs.«01_k».proof.Proof.BodyRun
public import Idealize.ShloMosaic.Lib.Claim
public import proofs.«01_k».proof.Proof.Gen.KernelIdeal.Frame
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.WordCmp
public import Idealize.ShloMosaic.Lib.VecWindow

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- Each window's current staging memref at point `t`, spelled as the pipeline passes it (`bodyAt0`), and its wholeness. -/
abbrev ms0_0 (t : Fin cfg0.N) : Memref sig .tc .vmem S192x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3584x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S112x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S112x40 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x32x128 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S192x512 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S4x112x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The proof data of the one pipeline on core `c`: the arrays as the region finds them (`V`); after the body at
    point `t` each input's buffer at its block and the output at `outV` of the blocks; the invariant
    the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outV (grid0.coords t) (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem after0_6 (c : Dev nD) (t : Fin cfg0.N) : (dats m 0 c).after 6 t
    = outV (grid0.coords t) (iblk m c 0 t) (iblk m c 1 t) (iblk m c 2 t) (iblk m c 3 t) (iblk m c 4 t) (iblk m c 5 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply (body_run c (grid0.coords t) _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  iintro ⟨H0, H1, H2, H3, H4, H5, H6, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every weakly fair execution ends with the arrays at what the points leave, and every semaphore counter at zero. -/
theorem run_post : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) ((θ_run defs _ _).mono (fun _ h => h.1) (run_post m ρ))

/-- The frame: the arguments end as they were, every semaphore counter at zero. -/
theorem frame_KI : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_post m ρ))

end Cert.Proof

end
-- ==== Proof.KernelFrame.lean ====
/-
  The kernel's frame. The idealized program is the kernel's own text, no operation rewritten, so the run proved for it at any float values is the kernel's.
-/
module

public import proofs.«01_k».proof.Defs
public import proofs.«01_k».proof.Proof.Gen.Kernel
public import proofs.«01_k».proof.Proof.Run

@[expose] public section

set_option maxRecDepth 1000000

noncomputable section

namespace Cert.Proof

open Idealize.ShloMosaic Idealize.SL.Sem

/-- The frame of the idealized program at the kernel's own float values. -/
def FrameBits : Prop :=
  ∀ (m : (ℓ : Loc Cert.KernelIdeal.nD Cert.KernelIdeal.τ Cert.KernelIdeal.sig) → Buf (Elt Bits) ℓ) (g : Dev Cert.KernelIdeal.nD → PrngReg), Cert.Pre_Kernel m →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

/-- The frame proved at any float values, at the bit-level ones, is the kernel's frame. -/
theorem frameBits_eq : FrameBits = Cert.quiescent_Kernel := by sl_kernel_rfl

/-- The kernel ends without fault, its arguments as they were and every semaphore counter at zero. -/
theorem frame_K : Cert.quiescent_Kernel := frameBits_eq ▸ fun m g _ => frame_KI m g

end Cert.Proof

end
-- ==== Proof.Codes.lean ====
/-
  The kernel's byte work, read at an index: nibbles, table look-ups and pairs of bytes.
-/
module

public import proofs.«01_k».proof.Proof.Prog
public import Idealize.ShloMosaic.Lib.Pointwise
public import Idealize.ShloMosaic.Lib.BitcastFour

@[expose] public section

set_option maxRecDepth 16384

noncomputable section

namespace Cert.Proof

open Idealize.ShloMosaic
open Cert.KernelIdeal Cert.KernelIdeal.Facts Cert.KernelIdeal.Shapes1.Facts₀

variable {F : FTy → Type} [FloatOps F] [Cert.KernelIdeal.Facts]

/-- A reinterpreted array at rank two, read at a bit. -/
theorem bitcast_bit {R n r v w : ℕ} (x : (⟨2, ![R, n]⟩ : Shape).Idx → BitVec v)
    (h : (⟨2, ![R, n]⟩ : Shape).Bitcasts v ⟨2, ![r, n]⟩ w) (a : Fin r) (l : Fin n) (q : ℕ) (hq : q < w) (hv : 0 < v)
    (p : Fin R) (hp : p.val = (a.val * w + q) / v) :
    (bitcast ⟨2, ![r, n]⟩ w x h (ix2 a l)).getLsbD q = (x (ix2 p l)).getLsbD ((a.val * w + q) % v) := by
  rw [bitcast_getLsbD x h _ q hq hv]
  show (x (h.srcIdx (ix2 a l) ((a.val * w + q) / v) _)).getLsbD _ = _
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- A byte of a word. -/
theorem byte_bit (x : IVec S8x128 32) (r : Fin 32) (l : Fin 128) (q : ℕ) (hq : q < 8) :
    (bitcast S32x128 8 x bitcasts_S8x128_w32_S32x128_w8 (ix2 r l)).getLsbD q
      = (x (ix2 ⟨r.val / 4, by omega⟩ l)).getLsbD (8 * (r.val % 4) + q) := by
  rw [bitcast_bit (R := 8) x _ r l q hq (by decide) ⟨r.val / 4, by omega⟩ (by show r.val / 4 = _; omega)]
  congr 1; omega

/-- A word of bytes. -/
theorem word_bit (x : IVec S32x128 8) (a : Fin 8) (l : Fin 128) (q : ℕ) (hq : q < 32) :
    (bitcast S8x128 32 x bitcasts_S32x128_w8_S8x128_w32 (ix2 a l)).getLsbD q
      = (x (ix2 ⟨4 * a.val + q / 8, by omega⟩ l)).getLsbD (q % 8) := by
  rw [bitcast_bit (R := 32) x _ a l q hq (by decide) ⟨4 * a.val + q / 8, by omega⟩ (by show 4 * a.val + q / 8 = _; omega)]
  congr 1; omega

/-- A half of a word. -/
theorem half_bit (x : IVec S8x128 32) (r : Fin 16) (l : Fin 128) (q : ℕ) (hq : q < 16) :
    (bitcast S16x128 16 x bitcasts_S8x128_w32_S16x128_w16 (ix2 r l)).getLsbD q
      = (x (ix2 ⟨r.val / 2, by omega⟩ l)).getLsbD (16 * (r.val % 2) + q) := by
  rw [bitcast_bit (R := 8) x _ r l q hq (by decide) ⟨r.val / 2, by omega⟩ (by show r.val / 2 = _; omega)]
  congr 1; omega

/-- Bytes two to a sixteen-bit word, at a bit. -/
theorem halves_bit (g : IVec S32x128 8) (r : Fin 16) (l : Fin 128) (q : ℕ) (hq : q < 16) :
    (halves g (ix2 r l)).getLsbD q = (g (ix2 ⟨2 * r.val + q / 8, by omega⟩ l)).getLsbD (q % 8) := by
  unfold halves
  rw [half_bit _ r l q hq, word_bit _ _ l _ (by omega)]
  have e1 : (⟨4 * (r.val / 2) + (16 * (r.val % 2) + q) / 8, by omega⟩ : Fin 32) = ⟨2 * r.val + q / 8, by omega⟩ := Fin.ext (by
    show 4 * (r.val / 2) + (16 * (r.val % 2) + q) / 8 = 2 * r.val + q / 8; omega)
  have e2 : (16 * (r.val % 2) + q) % 8 = q % 8 := by omega
  rw [← e1, e2]

/-- The nibble mask's bits. -/
theorem mask_bit : ∀ a : Fin 4, ∀ q : Fin 8, (252645135#32 : BitVec 32).getLsbD (8 * a.val + q.val) = decide (q.val < 4) := by decide

/-- The look-up index of a high nibble is the byte shifted right by four. -/
theorem nib_hi (w : Vec F S32x128 .i8) (r : Fin 32) (l : Fin 128) :
    nib (F := F) w 4#32 (ix2 r l) = (w (ix2 r l) : BitVec 8) >>> 4 := by
  apply BitVec.eq_of_getLsbD_eq
  intro q hq
  unfold nib
  rw [byte_bit _ r l q hq]
  show (IntOp.andi (IntOp.shrsi .vector _ 4#32) 252645135#32 : BitVec 32).getLsbD _ = _
  unfold IntOp.andi IntOp.shrsi
  rw [if_pos (by decide), BitVec.getLsbD_and, mask_bit ⟨r.val % 4, by omega⟩ ⟨q, hq⟩, BitVec.getLsbD_ushiftRight]
  by_cases h4 : q < 4
  · have e : ((8 * (r.val % 4) + q + 4) < 32) := by omega
    rw [show decide ((⟨q, hq⟩ : Fin 8).val < 4) = true from decide_eq_true h4, Bool.and_true]
    show (BitVec.sshiftRight' _ 4#32).getLsbD _ = _
    rw [BitVec.sshiftRight', BitVec.getLsbD_sshiftRight]
    have hlt : 8 * (r.val % 4) + q < 32 := by omega
    have h5 : (4#32 : BitVec 32).toNat + (8 * (r.val % 4) + q) < 32 := by show 4 + _ < 32; omega
    rw [if_pos h5]
    simp only [show ¬ (32 ≤ 8 * (r.val % 4) + q) by omega, decide_false, Bool.not_false, Bool.true_and]
    rw [word_bit (w : IVec S32x128 8) _ l _ (by show 4 + _ < 32; omega)]
    show ((w : IVec S32x128 8) (ix2 ⟨4 * (r.val / 4) + (4 + (8 * (r.val % 4) + q)) / 8, _⟩ l)).getLsbD ((4 + (8 * (r.val % 4) + q)) % 8) = _
    have e1 : (⟨4 * (r.val / 4) + (4 + (8 * (r.val % 4) + q)) / 8, by omega⟩ : Fin 32) = r := Fin.ext (by
      show 4 * (r.val / 4) + (4 + (8 * (r.val % 4) + q)) / 8 = r.val; omega)
    rw [e1, show (4 + (8 * (r.val % 4) + q)) % 8 = 4 + q by omega]
  · rw [show decide ((⟨q, hq⟩ : Fin 8).val < 4) = false from decide_eq_false h4, Bool.and_false,
      BitVec.getLsbD_of_ge _ _ (by omega)]

/-- The low four bits of a byte mask. -/
theorem lowmask_bit : ∀ q : Fin 8, (15#8 : BitVec 8).getLsbD q.val = decide (q.val < 4) := by decide

/-- The look-up index of a low nibble is the byte masked by fifteen. -/
theorem nib_lo (w : Vec F S32x128 .i8) (r : Fin 32) (l : Fin 128) :
    nib (F := F) w 0#32 (ix2 r l) = (w (ix2 r l) : BitVec 8) &&& 15#8 := by
  apply BitVec.eq_of_getLsbD_eq
  intro q hq
  unfold nib
  rw [byte_bit _ r l q hq]
  show (IntOp.andi (IntOp.shrsi .vector _ 0#32) 252645135#32 : BitVec 32).getLsbD _ = _
  unfold IntOp.andi IntOp.shrsi
  rw [if_pos (by decide), BitVec.getLsbD_and, mask_bit ⟨r.val % 4, by omega⟩ ⟨q, hq⟩, BitVec.getLsbD_and, lowmask_bit ⟨q, hq⟩]
  congr 1
  rw [BitVec.sshiftRight', BitVec.getLsbD_sshiftRight]
  have h5 : (0#32 : BitVec 32).toNat + (8 * (r.val % 4) + q) < 32 := by show 0 + _ < 32; omega
  rw [if_pos h5]
  simp only [show ¬ (32 ≤ 8 * (r.val % 4) + q) by omega, decide_false, Bool.not_false, Bool.true_and]
  rw [word_bit (w : IVec S32x128 8) _ l _ (by show 0 + _ < 32; omega)]
  show ((w : IVec S32x128 8) (ix2 ⟨4 * (r.val / 4) + (0 + (8 * (r.val % 4) + q)) / 8, _⟩ l)).getLsbD ((0 + (8 * (r.val % 4) + q)) % 8) = _
  have e1 : (⟨4 * (r.val / 4) + (0 + (8 * (r.val % 4) + q)) / 8, by omega⟩ : Fin 32) = r := Fin.ext (by
    show 4 * (r.val / 4) + (0 + (8 * (r.val % 4) + q)) / 8 = r.val; omega)
  rw [e1, show (0 + (8 * (r.val % 4) + q)) % 8 = q by omega]

/-- A sixteen-bit word of a pair of bytes, at a bit. -/
theorem pair_bit (a b : BitVec 8) (q : ℕ) (hq : q < 16) :
    (a ++ b : BitVec 16).getLsbD q = if q < 8 then b.getLsbD q else a.getLsbD (q - 8) := by
  rw [BitVec.getLsbD_append]

/-- The low eight bits of a 16-bit mask. -/
theorem ff_bit : ∀ q : Fin 16, (255#16 : BitVec 16).getLsbD q.val = decide (q.val < 8) := by decide

/-- The words of the even rows: high byte over low byte of row `2 r`. -/
theorem evens_at (lo hi : IVec S32x128 8) (r : Fin 16) (l : Fin 128) :
    evens (F := F) lo hi (ix2 r l) = FloatOps.ofBits .bf16
      (hi (ix2 ⟨2 * r.val, by omega⟩ l) ++ lo (ix2 ⟨2 * r.val, by omega⟩ l) : BitVec 16) := by
  unfold evens
  show FloatOps.ofBits .bf16 (IntOp.ori (IntOp.andi (halves lo (ix2 r l)) 255#16) (IntOp.shli .vector (halves hi (ix2 r l)) 8#16)) = _
  congr 1
  apply BitVec.eq_of_getLsbD_eq
  intro q hq'
  have hq : q < 16 := hq'
  rw [pair_bit _ _ q hq]
  unfold IntOp.ori IntOp.andi IntOp.shli
  rw [if_pos (by decide), BitVec.getLsbD_or, BitVec.getLsbD_and, ff_bit ⟨q, hq⟩, halves_bit _ _ _ q hq]
  show (_ && decide (q < 8) || (BitVec.shiftLeft (halves hi (ix2 r l)) 8).getLsbD q) = _
  rw [BitVec.shiftLeft_eq, BitVec.getLsbD_shiftLeft]
  by_cases h8 : q < 8
  · have e1 : (⟨2 * r.val + q / 8, by omega⟩ : Fin 32) = ⟨2 * r.val, by omega⟩ := Fin.ext (by show 2 * r.val + q / 8 = 2 * r.val; omega)
    simp only [e1, h8, decide_true, Bool.and_true, Bool.not_true, Bool.and_false, Bool.false_and, Bool.or_false, if_true]
    rw [show q % 8 = q by omega]
  · simp only [h8, decide_false, Bool.and_false, Bool.false_or, Bool.not_false, Bool.and_true, if_false, hq, decide_true, Bool.true_and]
    rw [halves_bit _ _ _ _ (by omega)]
    have e1 : (⟨2 * r.val + (q - 8) / 8, by omega⟩ : Fin 32) = ⟨2 * r.val, by omega⟩ := Fin.ext (by show 2 * r.val + (q - 8) / 8 = 2 * r.val; omega)
    rw [e1, show (q - 8) % 8 = q - 8 by omega]

/-- The byte mask of the odd rows, bit by bit. -/
theorem odd_word_bit : ∀ a : Fin 4, ∀ q : Fin 8, (4278255360#32 : BitVec 32).getLsbD (8 * a.val + q.val) = decide (a.val % 2 = 1) := by decide

/-- The mask holds on the odd rows. -/
theorem oddMask_at (r : Fin 32) (l : Fin 128) : oddMask (ix2 r l) = BitVec.ofBool (decide (r.val % 2 = 1)) := by
  unfold oddMask
  have hb : bitcast S32x128 8 (broadcast S8x128 4278255360#32 : IVec S8x128 32) bitcasts_S8x128_w32_S32x128_w8 (ix2 r l)
      = if r.val % 2 = 1 then 255#8 else 0#8 := by
    apply BitVec.eq_of_getLsbD_eq
    intro q hq
    rw [byte_bit _ r l q hq]
    show (4278255360#32 : BitVec 32).getLsbD _ = _
    rw [odd_word_bit ⟨r.val % 4, by omega⟩ ⟨q, hq⟩]
    show decide (r.val % 4 % 2 = 1) = _
    rw [show r.val % 4 % 2 = r.val % 2 by omega]
    by_cases h : r.val % 2 = 1
    · rw [if_pos h, decide_eq_true h]
      have : ∀ q : Fin 8, (255#8 : BitVec 8).getLsbD q.val = true := by decide
      exact (this ⟨q, hq⟩).symm
    · rw [if_neg h, decide_eq_false h]
      simp
  show IntOp.cmpi .ne (bitcast S32x128 8 (broadcast S8x128 4278255360#32 : IVec S8x128 32) bitcasts_S8x128_w32_S32x128_w8 (ix2 r l)) 0#8 = _
  rw [hb]
  by_cases h : r.val % 2 = 1
  · rw [if_pos h, decide_eq_true h]; rfl
  · rw [if_neg h, decide_eq_false h]; rfl

/-- The words of the odd rows: high byte over low byte of row `2 r + 1`. -/
theorem odds_at (lo hi : IVec S32x128 8) (r : Fin 16) (l : Fin 128) :
    odds (F := F) oddMask lo hi (ix2 r l) = FloatOps.ofBits .bf16
      (hi (ix2 ⟨2 * r.val + 1, by omega⟩ l) ++ lo (ix2 ⟨2 * r.val + 1, by omega⟩ l) : BitVec 16) := by
  unfold odds
  show FloatOps.ofBits .bf16 (halves _ (ix2 r l)) = _
  congr 1
  apply BitVec.eq_of_getLsbD_eq
  intro q hq'
  have hq : q < 16 := hq'
  rw [pair_bit _ _ q hq, halves_bit _ _ _ q hq]
  by_cases h8 : q < 8
  · rw [if_pos h8]
    have e1 : (⟨2 * r.val + q / 8, by omega⟩ : Fin 32) = ⟨2 * r.val, by omega⟩ := Fin.ext (by show 2 * r.val + q / 8 = 2 * r.val; omega)
    rw [e1, show q % 8 = q by omega]
    show (if oddMask (ix2 ⟨2 * r.val, _⟩ l) = 1 then _ else _ : BitVec 8).getLsbD q = _
    rw [oddMask_at, decide_eq_false (by show ¬ (2 * r.val) % 2 = 1; omega), if_neg (by decide), byte_bit _ _ l q h8]
    show (IntOp.shrui .vector (bitcast S8x128 32 lo bitcasts_S32x128_w8_S8x128_w32 _) 8#32 : BitVec 32).getLsbD _ = _
    unfold IntOp.shrui
    rw [if_pos (by decide)]
    show (BitVec.ushiftRight _ 8).getLsbD _ = _
    rw [BitVec.ushiftRight_eq, BitVec.getLsbD_ushiftRight, word_bit _ _ l _ (by show 8 + (8 * ((2 * r.val) % 4) + q) < 32; omega)]
    have e2 : (⟨4 * ((2 * r.val) / 4) + (8 + (8 * ((2 * r.val) % 4) + q)) / 8, by omega⟩ : Fin 32) = ⟨2 * r.val + 1, by omega⟩ := Fin.ext (by
      show 4 * ((2 * r.val) / 4) + (8 + (8 * ((2 * r.val) % 4) + q)) / 8 = 2 * r.val + 1; omega)
    refine (congrFun (congrArg (fun p => (lo (ix2 p l)).getLsbD) e2) _).trans (congrArg _ ?_)
    show (8 + (8 * ((2 * r.val) % 4) + q)) % 8 = q
    omega
  · rw [if_neg h8]
    have e1 : (⟨2 * r.val + q / 8, by omega⟩ : Fin 32) = ⟨2 * r.val + 1, by omega⟩ := Fin.ext (by show 2 * r.val + q / 8 = 2 * r.val + 1; omega)
    rw [e1, show q % 8 = q - 8 by omega]
    show (if oddMask (ix2 ⟨2 * r.val + 1, _⟩ l) = 1 then _ else _ : BitVec 8).getLsbD _ = _
    rw [oddMask_at, decide_eq_true (by show (2 * r.val + 1) % 2 = 1; omega), if_pos (by decide)]

/-- A nibble widened to 32 bits is itself. -/
theorem ext_nibble : ∀ n : Fin 16, BitVec.signExtend 32 (BitVec.ofNat 8 n.val) = BitVec.ofNat 32 n.val := by decide

/-- A table read at a nibble. -/
theorem gat_at (tab q : IVec S32x128 8) (r : Fin 32) (l : Fin 128) (n : Fin 16) (hn : q (ix2 r l) = BitVec.ofNat 8 n.val) :
    gat tab q (ix2 r l) = tab (ix2 ⟨n.val, by omega⟩ l) := by
  unfold gat
  have e : (shapeCast S32x128 (shapeCast S32x128x1 (extsi 32 q natLt_8_32) shapeCasts_S32x128_S32x128x1)
    shapeCasts_S32x128x1_S32x128) (ix2 r l) = BitVec.ofNat 32 n.val := by
    pointwise
    rw [hn]
    exact ext_nibble n
  rw [dynamicGather_apply]
  congr 1
  funext b
  match b with
  | ⟨0, _⟩ =>
    refine (if_pos rfl).trans (Fin.ext ?_)
    show (BitVec.toNat _) % 32 = n.val
    rw [e, BitVec.toNat_ofNat]; omega
  | ⟨1, _⟩ => exact if_neg (fun h => absurd (congrArg Fin.val h) Nat.one_ne_zero)

end Cert.Proof
-- ==== Proof.Tables.lean ====
/-
  The sixteen levels of the format, as the kernel's two byte tables hold them.
-/
module

public import proofs.«01_k».proof.KernelIdeal
public import Idealize.ShloMosaic.PureOps.Ideal

@[expose] public section

set_option maxRecDepth 16384

noncomputable section

namespace Cert.Proof

open Idealize.ShloMosaic

/-- The levels' bf16 patterns. -/
def nf4Word (n : Fin 16) : BitVec 16 :=
  (![0xBF80#16, 0xBF32#16, 0xBF06#16, 0xBECA#16, 0xBE92#16, 0xBE3D#16, 0xBDBA#16, 0x0000#16,
    0x3DA3#16, 0x3E25#16, 0x3E7C#16, 0x3EAD#16, 0x3EE2#16, 0x3F10#16, 0x3F39#16, 0x3F80#16] : Fin 16 → BitVec 16) n

/-- The levels. -/
def nf4 (n : Fin 16) : EReal := Ideal.ofBits .bf16 (nf4Word n)

/-- The two tables' bytes, high and low, are the patterns, the same in every lane. -/
theorem lit_word : ∀ n : Fin 16, ∀ l : Fin 128,
    (Cert.KernelIdeal.lit0 ⟨4096 + 128 * n.val + l.val, by omega⟩ ++ Cert.KernelIdeal.lit0 ⟨128 * n.val + l.val, by omega⟩ : BitVec 16) = nf4Word n := by
  decide +kernel

end Cert.Proof
-- ==== Proof.Spec.lean ====
/-
  The layer's value, term by term.
-/
module

public import proofs.«01_k».proof.Proof.Tables
public import Idealize.ShloMosaic.Lib.Pointwise

@[expose] public section

set_option maxRecDepth 16384

noncomputable section

namespace Cert.Proof

open Idealize.ShloMosaic

/-- A byte's high and low nibble. -/
def hiN (w : BitVec 8) : Fin 16 := ⟨w.toNat / 16, by have := w.isLt; omega⟩
/-- The low nibble of a byte. -/
def loN (w : BitVec 8) : Fin 16 := ⟨w.toNat % 16, by omega⟩

/-- Shifting a byte right by four leaves its high nibble. -/
theorem hiN_shift (w : BitVec 8) : w >>> 4 = BitVec.ofNat 8 (hiN w).val := by
  have h : ∀ i : Fin 256, (BitVec.ofFin i : BitVec 8) >>> 4 = BitVec.ofNat 8 (hiN (BitVec.ofFin i)).val := by decide +kernel
  exact h w.toFin

/-- Masking a byte by fifteen leaves its low nibble. -/
theorem loN_mask (w : BitVec 8) : w &&& 15#8 = BitVec.ofNat 8 (loN w).val := by
  have h : ∀ i : Fin 256, (BitVec.ofFin i : BitVec 8) &&& 15#8 = BitVec.ofNat 8 (loN (BitVec.ofFin i)).val := by decide +kernel
  exact h w.toFin

variable (X : (⟨3, ![192, 1, 7168]⟩ : Shape).Idx → EReal) (W : (⟨2, ![3584, 10240]⟩ : Shape).Idx → BitVec 8)
  (C : (⟨2, ![112, 10240]⟩ : Shape).Idx → BitVec 8) (G : (⟨2, ![112, 40]⟩ : Shape).Idx → EReal) (O : (⟨0, ![]⟩ : Shape).Idx → EReal)

/-- A block's scale: its code times the group's second-level scale, plus the offset. -/
def specAm (b : Fin 112) (col : Fin 10240) : EReal :=
  (((C (ix2 b col)).toInt : ℝ) : EReal) * G (ix2 b ⟨col.val / 256, by omega⟩) + O ix0

/-- The level of input column `c`: the high nibble of its byte row at even columns, the low one at odd. -/
def specLevel (c : ℕ) (h : c < 7168) (col : Fin 10240) : EReal :=
  nf4 (if c % 2 = 0 then hiN (W (ix2 ⟨c / 2, by omega⟩ col)) else loN (W (ix2 ⟨c / 2, by omega⟩ col)))

/-- One product of the sum. -/
def specTerm (r : Fin 192) (col : Fin 10240) (c : ℕ) : EReal :=
  if h : c < 7168 then X (ix3 r 0 ⟨c, h⟩) * (specLevel W c h col * specAm C G O ⟨c / 64, by omega⟩ col) else 0

/-- The result. -/
def specOut (r : Fin 192) (col : Fin 10240) : EReal := ∑ c ∈ Finset.range 7168, specTerm X W C G O r col c

/-- A sum over `2 n` terms is that of the even ones plus that of the odd ones. -/
theorem sum_even_odd (f : ℕ → EReal) (n : ℕ) : ∑ c ∈ Finset.range (2 * n), f c
    = (∑ j ∈ Finset.range n, f (2 * j)) + ∑ j ∈ Finset.range n, f (2 * j + 1) := by
  induction n with
  | zero => simp
  | succ n ih =>
    rw [show 2 * (n + 1) = 2 * n + 1 + 1 by omega, Finset.sum_range_succ, Finset.sum_range_succ, ih, Finset.sum_range_succ,
      Finset.sum_range_succ]
    ac_rfl

/-- The result as the sum over byte rows of the high nibbles' products plus that of the low ones'. -/
theorem specOut_halves (r : Fin 192) (col : Fin 10240) : specOut X W C G O r col
    = (∑ j : Fin 3584, X (ix3 r 0 ⟨2 * j.val, by omega⟩) * (nf4 (hiN (W (ix2 j col))) * specAm C G O ⟨j.val / 32, by omega⟩ col))
      + ∑ j : Fin 3584, X (ix3 r 0 ⟨2 * j.val + 1, by omega⟩) * (nf4 (loN (W (ix2 j col))) * specAm C G O ⟨j.val / 32, by omega⟩ col) := by
  unfold specOut
  have h := sum_even_odd (specTerm X W C G O r col) 3584
  rw [show 2 * 3584 = 7168 from rfl, Finset.sum_range (fun j => specTerm X W C G O r col (2 * j)),
    Finset.sum_range (fun j => specTerm X W C G O r col (2 * j + 1))] at h
  refine h.trans (congrArg₂ (· + ·) (Finset.sum_congr rfl fun j _ => ?_) (Finset.sum_congr rfl fun j _ => ?_))
  · unfold specTerm specLevel
    rw [dif_pos (show 2 * j.val < 7168 by omega), if_pos (show 2 * j.val % 2 = 0 by omega)]
    have e1 : (⟨2 * j.val / 2, by omega⟩ : Fin 3584) = j := Fin.ext (by show 2 * j.val / 2 = j.val; omega)
    have e2 : (⟨2 * j.val / 64, by omega⟩ : Fin 112) = ⟨j.val / 32, by omega⟩ := Fin.ext (by show 2 * j.val / 64 = j.val / 32; omega)
    rw [e1, e2]
  · unfold specTerm specLevel
    rw [dif_pos (show 2 * j.val + 1 < 7168 by omega), if_neg (show ¬ (2 * j.val + 1) % 2 = 0 by omega)]
    have e1 : (⟨(2 * j.val + 1) / 2, by omega⟩ : Fin 3584) = j := Fin.ext (by show (2 * j.val + 1) / 2 = j.val; omega)
    have e2 : (⟨(2 * j.val + 1) / 64, by omega⟩ : Fin 112) = ⟨j.val / 32, by omega⟩ := Fin.ext (by show (2 * j.val + 1) / 64 = j.val / 32; omega)
    rw [e1, e2]

end Cert.Proof
-- ==== Proof.KernelValue.lean ====
/-
  What one run of the kernel body leaves, at an index, in exact arithmetic.
-/
module

public import proofs.«01_k».proof.Proof.Body
public import proofs.«01_k».proof.Proof.Codes
public import proofs.«01_k».proof.Proof.Spec

@[expose] public section

set_option maxRecDepth 16384

noncomputable section

namespace Cert.Proof

open Idealize.ShloMosaic
open Cert.KernelIdeal Cert.KernelIdeal.Facts Cert.KernelIdeal.Shapes1.Facts₀

variable [Cert.KernelIdeal.Facts]

/-! ## One block -/

/-- The two byte tables hold the levels. -/
def Tables (t0 t1 : IVec S32x128 8) : Prop :=
  ∀ (n : Fin 16) (l : Fin 128), (t1 (ix2 ⟨n.val, by omega⟩ l) ++ t0 (ix2 ⟨n.val, by omega⟩ l) : BitVec 16) = nf4Word n

section Block

variable {t0 t1 : IVec S32x128 8} (ht : Tables t0 t1) (w : Vec Ideal S32x128 .i8) (s : Fin 16) (l : Fin 128)
include ht

/-- The even rows' high nibbles decode to their levels. -/
theorem eh_at : evens (F := Ideal) (gat t0 (nib (F := Ideal) w 4#32)) (gat t1 (nib (F := Ideal) w 4#32)) (ix2 s l)
    = nf4 (hiN (w (ix2 ⟨2 * s.val, by omega⟩ l))) := by
  have hn := (nib_hi w ⟨2 * s.val, by omega⟩ l).trans (hiN_shift _)
  rw [evens_at, gat_at t0 _ _ l _ hn, gat_at t1 _ _ l _ hn, ht]
  rfl

/-- The even rows' low nibbles decode to their levels. -/
theorem el_at : evens (F := Ideal) (gat t0 (nib (F := Ideal) w 0#32)) (gat t1 (nib (F := Ideal) w 0#32)) (ix2 s l)
    = nf4 (loN (w (ix2 ⟨2 * s.val, by omega⟩ l))) := by
  have hn := (nib_lo w ⟨2 * s.val, by omega⟩ l).trans (loN_mask _)
  rw [evens_at, gat_at t0 _ _ l _ hn, gat_at t1 _ _ l _ hn, ht]
  rfl

/-- The odd rows' high nibbles decode to their levels. -/
theorem oh_at : odds (F := Ideal) oddMask (gat t0 (nib (F := Ideal) w 4#32)) (gat t1 (nib (F := Ideal) w 4#32)) (ix2 s l)
    = nf4 (hiN (w (ix2 ⟨2 * s.val + 1, by omega⟩ l))) := by
  have hn := (nib_hi w ⟨2 * s.val + 1, by omega⟩ l).trans (hiN_shift _)
  rw [odds_at, gat_at t0 _ _ l _ hn, gat_at t1 _ _ l _ hn, ht]
  rfl

/-- The odd rows' low nibbles decode to their levels. -/
theorem ol_at : odds (F := Ideal) oddMask (gat t0 (nib (F := Ideal) w 0#32)) (gat t1 (nib (F := Ideal) w 0#32)) (ix2 s l)
    = nf4 (loN (w (ix2 ⟨2 * s.val + 1, by omega⟩ l))) := by
  have hn := (nib_lo w ⟨2 * s.val + 1, by omega⟩ l).trans (loN_mask _)
  rw [odds_at, gat_at t0 _ _ l _ hn, gat_at t1 _ _ l _ hn, ht]
  rfl

end Block

/-- The packed weights of block `b` and column tile `n`, at an index. -/
theorem wAt_at (x1 : Vec Ideal S3584x512 .i8) (b n : ℕ) (hb : b < 112) (hn : n < 4) (r : Fin 32) (l : Fin 128) :
    wAt x1 b n hb hn (ix2 r l) = x1 (ix2 ⟨32 * b + r.val, by omega⟩ ⟨128 * n + l.val, by omega⟩) := by
  unfold wAt
  congr 1
  funext a
  match a with
  | ⟨0, _⟩ => apply Fin.ext; show 32 * b + 1 * r.val = 32 * b + r.val; omega
  | ⟨1, _⟩ => apply Fin.ext; show 128 * n + 1 * l.val = 128 * n + l.val; omega

/-- The scale row of block `b` and column tile `n` is the same on all eight rows. -/
theorem amAt_at (am : Vec Ideal S4x112x128 .f32) (b n : ℕ) (hb : b < 112) (hn : n < 4) (z : Fin 1) (r : Fin 8) (l : Fin 128) :
    amAt am b n hb hn (ix3 z r l) = am (ix3 ⟨n, hn⟩ ⟨b, hb⟩ l) := by
  unfold amAt
  congr 1
  funext a
  match a with
  | ⟨0, _⟩ => apply Fin.ext; show n + 1 * z.val = n; omega
  | ⟨1, _⟩ => apply Fin.ext; show b + 0 * r.val = b; omega
  | ⟨2, _⟩ => apply Fin.ext; show 0 + 1 * l.val = l.val; omega

/-- The activations of step `k`, at an index. -/
theorem xAt_at (x0 : Vec Ideal S192x7168 .bf16) (k : ℕ) (hk : k < 28) (r : Fin 192) (d : Fin 256) :
    xAt x0 k hk (ix2 r d) = x0 (ix2 r ⟨256 * k + d.val, by omega⟩) := by
  unfold xAt
  congr 1
  funext a
  match a with
  | ⟨0, _⟩ => apply Fin.ext; show 0 + 1 * r.val = r.val; omega
  | ⟨1, _⟩ => apply Fin.ext; show 256 * k + 1 * d.val = 256 * k + d.val; omega

/-- The scale of block `b` and column tile `n`, on all sixteen rows. -/
theorem scales_at (am : Vec Ideal S4x112x128 .f32) (b n : ℕ) (hb : b < 112) (hn : n < 4) (s : Fin 16) (l : Fin 128) :
    scales (amAt am b n hb hn) (ix2 s l) = am (ix3 ⟨n, hn⟩ ⟨b, hb⟩ l) := by
  pointwise [scales]
  split_ifs <;> exact amAt_at am b n hb hn _ _ _

/-- The level of input column `c` in one column block. -/
def lev (x1 : Vec Ideal S3584x512 .i8) (c : ℕ) (h : c < 7168) (q : Fin 512) : EReal :=
  nf4 (if c % 2 = 0 then hiN (x1 (ix2 ⟨c / 2, by omega⟩ q)) else loN (x1 (ix2 ⟨c / 2, by omega⟩ q)))

/-- An even weight row is the high nibble of its byte row. -/
theorem lev_even (x1 : Vec Ideal S3584x512 .i8) (c : ℕ) (h : c < 7168) (q : Fin 512) (h2 : c % 2 = 0) (r : Fin 3584) (hr : r.val = c / 2) :
    lev x1 c h q = nf4 (hiN (x1 (ix2 r q))) := by
  unfold lev
  rw [if_pos h2, show (⟨c / 2, by omega⟩ : Fin 3584) = r from Fin.ext hr.symm]

/-- An odd weight row is the low nibble of its byte row. -/
theorem lev_odd (x1 : Vec Ideal S3584x512 .i8) (c : ℕ) (h : c < 7168) (q : Fin 512) (h2 : c % 2 = 1) (r : Fin 3584) (hr : r.val = c / 2) :
    lev x1 c h q = nf4 (loN (x1 (ix2 r q))) := by
  unfold lev
  rw [if_neg (by omega), show (⟨c / 2, by omega⟩ : Fin 3584) = r from Fin.ext hr.symm]

/-- A piece of a block by its number. -/
def Unit4.piece (u : Unit4 Ideal) (p : ℕ) : FVec Ideal S16x128 .bf16 :=
  match p with
  | 0 => u.eh
  | 1 => u.el
  | 2 => u.oh
  | _ => u.ol

/-- The weights of one block of one column tile: level times scale. -/
theorem unit_at {t0 t1 : IVec S32x128 8} (ht : Tables t0 t1) (x1 : Vec Ideal S3584x512 .i8) (am : Vec Ideal S4x112x128 .f32)
    (b n : ℕ) (hb : b < 112) (hn : n < 4) (p : ℕ) (hp : p < 4) (s : Fin 16) (l : Fin 128) :
    (unitV x1 am t0 t1 oddMask b n hb hn).piece p (ix2 s l)
      = lev x1 (64 * b + 4 * s.val + p) (by omega) ⟨128 * n + l.val, by omega⟩ * am (ix3 ⟨n, hn⟩ ⟨b, hb⟩ l) := by
  have hs := scales_at am b n hb hn s l
  obtain rfl | rfl | rfl | rfl : p = 0 ∨ p = 1 ∨ p = 2 ∨ p = 3 := by omega
  · show evens _ _ (ix2 s l) * scales _ (ix2 s l) = _
    rw [hs, eh_at ht, wAt_at, lev_even _ _ _ _ (by omega) ⟨32 * b + 2 * s.val, by omega⟩ (by show 32 * b + 2 * s.val = _; omega)]
  · show evens _ _ (ix2 s l) * scales _ (ix2 s l) = _
    rw [hs, el_at ht, wAt_at, lev_odd _ _ _ _ (by omega) ⟨32 * b + 2 * s.val, by omega⟩ (by show 32 * b + 2 * s.val = _; omega)]
  · show odds _ _ _ (ix2 s l) * scales _ (ix2 s l) = _
    rw [hs, oh_at ht, wAt_at, lev_even _ _ _ _ (by omega) ⟨32 * b + (2 * s.val + 1), by omega⟩ (by show 32 * b + (2 * s.val + 1) = _; omega)]
  · show odds _ _ _ (ix2 s l) * scales _ (ix2 s l) = _
    rw [hs, ol_at ht, wAt_at, lev_odd _ _ _ _ (by omega) ⟨32 * b + (2 * s.val + 1), by omega⟩ (by show 32 * b + (2 * s.val + 1) = _; omega)]

/-! ## One step -/

/-- One of four. -/
def pick {α : Type} (a b c d : α) (u : ℕ) : α :=
  match u with
  | 0 => a
  | 1 => b
  | 2 => c
  | _ => d

/-- Sixteen pieces of sixteen rows, stacked, at an index. -/
theorem stack4_at (a b c d : Unit4 Ideal) (i : Fin 256) (l : Fin 128) :
    stack4 a b c d (ix2 i l) = (pick a b c d (i.val / 64)).piece (i.val / 16 % 4) (ix2 ⟨i.val % 16, by omega⟩ l) := by
  let f : Fin 16 → (S16x128.Idx → EReal) := fun n => (pick a b c d (n.val / 4)).piece (n.val % 4)
  have hL : (List.ofFn fun n : Fin 16 => (⟨S16x128, f n⟩ : (s : Shape) × (s.Idx → EReal)))
      = [⟨S16x128, a.eh⟩, ⟨S16x128, a.el⟩, ⟨S16x128, a.oh⟩, ⟨S16x128, a.ol⟩,
        ⟨S16x128, b.eh⟩, ⟨S16x128, b.el⟩, ⟨S16x128, b.oh⟩, ⟨S16x128, b.ol⟩,
        ⟨S16x128, c.eh⟩, ⟨S16x128, c.el⟩, ⟨S16x128, c.oh⟩, ⟨S16x128, c.ol⟩,
        ⟨S16x128, d.eh⟩, ⟨S16x128, d.el⟩, ⟨S16x128, d.oh⟩, ⟨S16x128, d.ol⟩] := rfl
  have h := concatenate_ofFn_apply (t := S256x128) (s₁ := S16x128) 0 f (by rw [hL]; exact concatenates_S16x128_S16x128_S16x128_S16x128_S16x128_S16x128_S16x128_S16x128_S16x128_S16x128_S16x128_S16x128_S16x128_S16x128_S16x128_S16x128_S256x128_d0)
    rfl 16 rfl (ix2 i l) ⟨i.val / 16, by omega⟩ rfl (ix2 ⟨i.val % 16, by omega⟩ l) rfl (by
      intro b hb
      match b with
      | ⟨0, _⟩ => exact absurd rfl hb
      | ⟨1, _⟩ => rfl)
  have e : i.val / 16 / 4 = i.val / 64 := by omega
  have h2 : f ⟨i.val / 16, by omega⟩ = (pick a b c d (i.val / 64)).piece (i.val / 16 % 4) := by
    show (pick a b c d (i.val / 16 / 4)).piece _ = _
    rw [e]
  rw [← h2]
  exact h

/-- Four column tiles side by side, at an index. -/
theorem wide4_at (a b c d : FVec Ideal S256x128 .bf16) (i : Fin 256) (q : Fin 512) :
    wide4 a b c d (ix2 i q) = pick a b c d (q.val / 128) (ix2 i ⟨q.val % 128, by omega⟩) := by
  let f : Fin 4 → (S256x128.Idx → EReal) := fun n => pick a b c d n.val
  have hL : (List.ofFn fun n : Fin 4 => (⟨S256x128, f n⟩ : (s : Shape) × (s.Idx → EReal)))
      = [⟨S256x128, a⟩, ⟨S256x128, b⟩, ⟨S256x128, c⟩, ⟨S256x128, d⟩] := rfl
  exact concatenate_ofFn_apply (t := S256x512) (s₁ := S256x128) 1 f (by rw [hL]; exact concatenates_S256x128_S256x128_S256x128_S256x128_S256x512_d1)
    rfl 128 rfl (ix2 i q) ⟨q.val / 128, by omega⟩ rfl (ix2 i ⟨q.val % 128, by omega⟩) rfl (by
      intro b hb
      match b with
      | ⟨0, _⟩ => rfl
      | ⟨1, _⟩ => exact absurd rfl hb)

/-- The column of the input that row `d` of a step's weights belongs to, within the step. -/
def place (d : Fin 256) : Fin 256 := ⟨64 * (d.val / 64) + 4 * (d.val % 16) + d.val / 16 % 4, by omega⟩

/-- The order in which the kernel lays out the rows of a block permutes them. -/
theorem place_bij : Function.Bijective place := by
  rw [Fintype.bijective_iff_injective_and_card]
  refine ⟨?_, rfl⟩
  intro a b h
  have h' : 64 * (a.val / 64) + 4 * (a.val % 16) + a.val / 16 % 4 = 64 * (b.val / 64) + 4 * (b.val % 16) + b.val / 16 % 4 := congrArg Fin.val h
  apply Fin.ext
  omega

/-- The weights of one step: level times scale of the row laid out there. -/
theorem wide_at {t0 t1 : IVec S32x128 8} (ht : Tables t0 t1) (x1 : Vec Ideal S3584x512 .i8) (am : Vec Ideal S4x112x128 .f32)
    (k : ℕ) (hk : k < 28) (d : Fin 256) (q : Fin 512) :
    wideV x1 am t0 t1 oddMask k hk (ix2 d q)
      = lev x1 (256 * k + (place d).val) (by omega) q
        * am (ix3 ⟨q.val / 128, by omega⟩ ⟨(256 * k + (place d).val) / 64, by omega⟩ ⟨q.val % 128, by omega⟩) := by
  have tile : ∀ (n : ℕ) (hn : n < 4) (l : Fin 128), tileV x1 am t0 t1 oddMask k n hk hn (ix2 d l)
      = lev x1 (256 * k + (place d).val) (by omega) ⟨128 * n + l.val, by omega⟩
        * am (ix3 ⟨n, hn⟩ ⟨(256 * k + (place d).val) / 64, by omega⟩ l) := by
    intro n hn l
    unfold tileV
    rw [stack4_at]
    have hu : ∀ u (hu : u < 4), d.val / 64 = u → (unitV x1 am t0 t1 oddMask (4 * k + u) n (by omega) hn).piece (d.val / 16 % 4) (ix2 ⟨d.val % 16, by omega⟩ l)
        = lev x1 (256 * k + (place d).val) (by omega) ⟨128 * n + l.val, by omega⟩
          * am (ix3 ⟨n, hn⟩ ⟨(256 * k + (place d).val) / 64, by omega⟩ l) := by
      intro u hu hd
      have hpl : (place d).val = 64 * (d.val / 64) + 4 * (d.val % 16) + d.val / 16 % 4 := rfl
      rw [unit_at ht x1 am _ n _ hn _ (by omega)]
      have e1 : 64 * (4 * k + u) + 4 * (d.val % 16) + d.val / 16 % 4 = 256 * k + (place d).val := by omega
      have e2 : (⟨(256 * k + (place d).val) / 64, by omega⟩ : Fin 112) = ⟨4 * k + u, by omega⟩ := Fin.ext (by
        show (256 * k + (place d).val) / 64 = 4 * k + u; omega)
      rw [e2]
      congr 1
      show lev x1 (64 * (4 * k + u) + 4 * (d.val % 16) + d.val / 16 % 4) _ _ = _
      simp only [e1]
    have hd : d.val / 64 < 4 := by omega
    obtain h | h | h | h : d.val / 64 = 0 ∨ d.val / 64 = 1 ∨ d.val / 64 = 2 ∨ d.val / 64 = 3 := by omega
    · rw [← hu 0 (by omega) h, h]; rfl
    · rw [← hu 1 (by omega) h, h]; rfl
    · rw [← hu 2 (by omega) h, h]; rfl
    · rw [← hu 3 (by omega) h, h]; rfl
  unfold wideV
  rw [wide4_at]
  have key : ∀ n (hn : n < 4), q.val / 128 = n → tileV x1 am t0 t1 oddMask k n hk hn (ix2 d ⟨q.val % 128, by omega⟩)
      = lev x1 (256 * k + (place d).val) (by omega) q
        * am (ix3 ⟨q.val / 128, by omega⟩ ⟨(256 * k + (place d).val) / 64, by omega⟩ ⟨q.val % 128, by omega⟩) := by
    intro n hn hq
    rw [tile]
    have e1 : (⟨128 * n + q.val % 128, by omega⟩ : Fin 512) = q := Fin.ext (by show 128 * n + q.val % 128 = q.val; omega)
    have e2 : (⟨q.val / 128, by omega⟩ : Fin 4) = ⟨n, hn⟩ := Fin.ext hq
    rw [e2]
    show lev _ _ _ ⟨128 * n + q.val % 128, _⟩ * _ = _
    rw [e1]
  obtain h | h | h | h : q.val / 128 = 0 ∨ q.val / 128 = 1 ∨ q.val / 128 = 2 ∨ q.val / 128 = 3 := by omega
  · rw [← key 0 (by omega) h, h]; rfl
  · rw [← key 1 (by omega) h, h]; rfl
  · rw [← key 2 (by omega) h, h]; rfl
  · rw [← key 3 (by omega) h, h]; rfl

/-! ## All steps -/

/-- One product, at input column `c`. -/
def kTerm (x0 : Vec Ideal S192x7168 .bf16) (x1 : Vec Ideal S3584x512 .i8) (am : Vec Ideal S4x112x128 .f32) (r : Fin 192) (q : Fin 512) (c : ℕ) : EReal :=
  if h : c < 7168 then x0 (ix2 r ⟨64 * (c / 64) + 16 * (c % 4) + c % 64 / 4, by omega⟩)
    * (lev x1 c h q * am (ix3 ⟨q.val / 128, by omega⟩ ⟨c / 64, by omega⟩ ⟨q.val % 128, by omega⟩)) else 0

/-- One step adds one product to the accumulator. -/
theorem accNext_at (acc : FVec Ideal S192x512 .f32) (x : Vec Ideal S192x256 .bf16) (w : FVec Ideal S256x512 .bf16) (r : Fin 192) (q : Fin 512) :
    accNext acc x w (ix2 r q) = acc (ix2 r q) + ∑ d : Fin 256, x (ix2 r d) * w (ix2 d q) := by
  pointwise [accNext]

/-- After `k` steps the accumulator is the sum over the first `256 k` weight rows. -/
theorem acc_at {t0 t1 : IVec S32x128 8} (ht : Tables t0 t1) (x0 : Vec Ideal S192x7168 .bf16) (x1 : Vec Ideal S3584x512 .i8)
    (am : Vec Ideal S4x112x128 .f32) (r : Fin 192) (q : Fin 512) : ∀ (k : ℕ) (h : k ≤ 28),
    accV x0 x1 am t0 t1 oddMask k h (ix2 r q) = ∑ c ∈ Finset.range (256 * k), kTerm x0 x1 am r q c
  | 0, _ => by
    show acc0 (ix2 r q) = _
    pointwise [acc0]
    exact (Finset.sum_range_zero _).symm
  | k + 1, h => by
    show accNext _ _ _ (ix2 r q) = _
    rw [accNext_at, acc_at ht x0 x1 am r q k (by omega), show 256 * (k + 1) = 256 * k + 256 by omega, Finset.sum_range_add]
    congr 1
    rw [Finset.sum_range (fun d => kTerm x0 x1 am r q (256 * k + d)),
      ← place_bij.sum_comp (fun d : Fin 256 => kTerm x0 x1 am r q (256 * k + d.val))]
    refine Finset.sum_congr rfl fun d _ => ?_
    rw [wide_at ht, xAt_at]
    unfold kTerm
    have hpl : (place d).val = 64 * (d.val / 64) + 4 * (d.val % 16) + d.val / 16 % 4 := rfl
    rw [dif_pos (show 256 * k + (place d).val < 7168 by omega)]
    have e1 : (256 * k + (place d).val) / 64 = 4 * k + d.val / 64 := by omega
    have e2 : (256 * k + (place d).val) % 4 = d.val / 16 % 4 := by omega
    have e3 : (256 * k + (place d).val) % 64 / 4 = d.val % 16 := by omega
    have e4 : 64 * ((256 * k + (place d).val) / 64) + 16 * ((256 * k + (place d).val) % 4) + (256 * k + (place d).val) % 64 / 4
        = 256 * k + d.val := by rw [e1, e2, e3]; omega
    have e : (⟨64 * ((256 * k + (place d).val) / 64) + 16 * ((256 * k + (place d).val) % 4) + (256 * k + (place d).val) % 64 / 4, by rw [e4]; omega⟩ : Fin 7168)
        = ⟨256 * k + d.val, by omega⟩ := Fin.ext e4
    rw [e]

/-! ## The scales -/

/-- A group's number picks its own entry only. -/
theorem group_bit : ∀ t : Fin 20, ∀ h : Fin 2, ∀ k : Fin 40,
    IntOp.cmpi .eq (BitVec.ofNat 32 k.val) (Scalar.addi (Scalar.muli (BitVec.ofNat 32 t.val) 2#32) (BitVec.ofNat 32 h.val))
      = BitVec.ofBool (decide (k.val = 2 * t.val + h.val)) := by decide +kernel

/-- A scale is its code times its group's scale, plus the offset: the masked sum over the groups keeps one. -/
theorem amOf_at (i : grid0.Coords) (h : Fin 2) (off : EReal) (g : Vec Ideal S112x40 .f32) (q : Vec Ideal S112x256 .i8) (b : Fin 112) (x : Fin 256)
    (t : Fin 20) (hi : (i 0).val = t.val) :
    amOf (F := Ideal) i (BitVec.ofNat 32 h.val) off g q (ix2 b x)
      = (((q (ix2 b x) : BitVec 8).toInt : ℝ) : EReal) * g (ix2 b ⟨2 * t.val + h.val, by omega⟩) + off := by
  pointwise [amOf]
  have hk : 2 * t.val + h.val < 40 := by omega
  have hb : ∀ k : Fin 40, IntOp.cmpi .eq (BitVec.ofNat 32 k.val) (Scalar.addi (Scalar.muli (BitVec.ofNat 32 (i 0).val) 2#32) (BitVec.ofNat 32 h.val))
      = BitVec.ofBool (decide (k.val = 2 * t.val + h.val)) := by
    intro k; rw [hi]; exact group_bit t h k
  refine congrArg₂ (· + ·) (congrArg₂ (· * ·) rfl ((Finset.sum_eq_single (⟨2 * t.val + h.val, hk⟩ : Fin 40) ?_ ?_).trans ?_)) rfl
  · intro k _ hne
    rw [hb, decide_eq_false (fun e => hne (Fin.ext e))]
    rfl
  · intro hn; exact absurd (Finset.mem_univ _) hn
  · rw [hb, decide_eq_true rfl]
    rfl

/-- The left half of the scale codes, at an index. -/
theorem codesAt0_at (x2 : Vec Ideal S112x512 .i8) (b : Fin 112) (x : Fin 256) : codesAt0 x2 (ix2 b x) = x2 (ix2 b ⟨x.val, by omega⟩) := by
  unfold codesAt0
  congr 1
  funext a
  match a with
  | ⟨0, _⟩ => apply Fin.ext; show 0 + 1 * b.val = b.val; omega
  | ⟨1, _⟩ => apply Fin.ext; show 0 + 1 * x.val = x.val; omega

/-- The right half of the scale codes, at an index. -/
theorem codesAt1_at (x2 : Vec Ideal S112x512 .i8) (b : Fin 112) (x : Fin 256) : codesAt1 x2 (ix2 b x) = x2 (ix2 b ⟨256 + x.val, by omega⟩) := by
  unfold codesAt1
  congr 1
  funext a
  match a with
  | ⟨0, _⟩ => apply Fin.ext; show 0 + 1 * b.val = b.val; omega
  | ⟨1, _⟩ => apply Fin.ext; show 256 + 1 * x.val = 256 + x.val; omega

/-- The group scales, at an index. -/
theorem groupsAt_at (x3 : Vec Ideal S112x40 .f32) (b : Fin 112) (k : Fin 40) : groupsAt x3 (ix2 b k) = x3 (ix2 b k) := by
  unfold groupsAt
  congr 1
  funext a
  match a with
  | ⟨0, _⟩ => apply Fin.ext; show 0 + 1 * b.val = b.val; omega
  | ⟨1, _⟩ => apply Fin.ext; show 0 + 1 * k.val = k.val; omega

/-- The offset is the one element of its block. -/
theorem offAt_at (x4 : Vec Ideal S1x1 .f32) : offAt x4 = x4 (ix2 0 0) := by
  unfold offAt
  congr 1
  funext a
  match a with
  | ⟨0, _⟩ => exact Subsingleton.elim (α := Fin 1) _ _
  | ⟨1, _⟩ => exact Subsingleton.elim (α := Fin 1) _ _

/-- The left lanes of the scales, at an index. -/
theorem amLeft_at (a : FVec Ideal S112x256 .f32) (z : Fin 1) (b : Fin 112) (l : Fin 128) : amLeft a (ix3 z b l) = a (ix2 b ⟨l.val, by omega⟩) := by
  pointwise [amLeft]

/-- The right lanes of the scales, at an index. -/
theorem amRight_at (a : FVec Ideal S112x256 .f32) (z : Fin 1) (b : Fin 112) (l : Fin 128) : amRight a (ix3 z b l) = a (ix2 b ⟨128 + l.val, by omega⟩) := by
  pointwise [amRight]

/-- The place of a scale in its column tile. -/
theorem laneIx_at (n : Fin 4) (b : Fin 112) (l : Fin 128) : laneIx (ix3 n b l) = ix3 0 b l := by
  funext a
  match a with
  | ⟨0, _⟩ => rfl
  | ⟨1, _⟩ => rfl
  | ⟨2, _⟩ => rfl

/-- The scratch buffer's scales. -/
theorem amV_at (i : grid0.Coords) (x2 : Vec Ideal S112x512 .i8) (x3 : Vec Ideal S112x40 .f32) (x4 : Vec Ideal S1x1 .f32)
    (t : Fin 20) (hi : (i 0).val = t.val) (n : Fin 4) (b : Fin 112) (l : Fin 128) :
    amV i x2 x3 x4 (ix3 n b l) = (((x2 (ix2 b ⟨128 * n.val + l.val, by omega⟩) : BitVec 8).toInt : ℝ) : EReal)
      * x3 (ix2 b ⟨2 * t.val + n.val / 2, by omega⟩) + x4 (ix2 0 0) := by
  have same : ∀ (p p' : Fin 512) (k k' : Fin 40), p.val = p'.val → k.val = k'.val →
      (((x2 (ix2 b p) : BitVec 8).toInt : ℝ) : EReal) * x3 (ix2 b k) + x4 (ix2 0 0)
        = (((x2 (ix2 b p') : BitVec 8).toInt : ℝ) : EReal) * x3 (ix2 b k') + x4 (ix2 0 0) := by
    intro p p' k k' hp hk
    rw [Fin.ext hp, Fin.ext hk]
  match n with
  | ⟨0, _⟩ =>
    show amLeft (amOf i (BitVec.ofNat 32 (0 : Fin 2).val) _ _ _) (laneIx (ix3 ⟨0, _⟩ b l)) = _
    rw [laneIx_at, amLeft_at, amOf_at i 0 _ _ _ _ _ t hi, codesAt0_at, groupsAt_at, offAt_at]
    exact same _ _ _ _ (by first | rfl | omega | (simp only []; omega)) (by first | rfl | omega | (simp only []; omega))
  | ⟨1, _⟩ =>
    show amRight (amOf i (BitVec.ofNat 32 (0 : Fin 2).val) _ _ _) (laneIx (ix3 ⟨1, _⟩ b l)) = _
    rw [laneIx_at, amRight_at, amOf_at i 0 _ _ _ _ _ t hi, codesAt0_at, groupsAt_at, offAt_at]
    exact same _ _ _ _ (by first | rfl | omega | (simp only []; omega)) (by first | rfl | omega | (simp only []; omega))
  | ⟨2, _⟩ =>
    show amLeft (amOf i (BitVec.ofNat 32 (1 : Fin 2).val) _ _ _) (laneIx (ix3 ⟨2, _⟩ b l)) = _
    rw [laneIx_at, amLeft_at, amOf_at i 1 _ _ _ _ _ t hi, codesAt1_at, groupsAt_at, offAt_at]
    exact same _ _ _ _ (by first | rfl | omega | (simp only []; omega)) (by first | rfl | omega | (simp only []; omega))
  | ⟨3, _⟩ =>
    show amRight (amOf i (BitVec.ofNat 32 (1 : Fin 2).val) _ _ _) (laneIx (ix3 ⟨3, _⟩ b l)) = _
    rw [laneIx_at, amRight_at, amOf_at i 1 _ _ _ _ _ t hi, codesAt1_at, groupsAt_at, offAt_at]
    exact same _ _ _ _ (by first | rfl | omega | (simp only []; omega)) (by first | rfl | omega | (simp only []; omega))

/-- The table of low bytes, at an index. -/
theorem tabV0_at (x5 : Vec Ideal S2x32x128 .i8) (r : Fin 32) (l : Fin 128) : tabV0 (F := Ideal) x5 (ix2 r l) = x5 (ix3 0 r l) := by
  pointwise [tabV0, tabOf]

/-- The table of high bytes, at an index. -/
theorem tabV1_at (x5 : Vec Ideal S2x32x128 .i8) (r : Fin 32) (l : Fin 128) : tabV1 (F := Ideal) x5 (ix2 r l) = x5 (ix3 1 r l) := by
  pointwise [tabV1, tabOf]

/-- One run's result is the layer's value on its column block. -/
theorem out_at (X : (⟨3, ![192, 1, 7168]⟩ : Shape).Idx → EReal) (W : (⟨2, ![3584, 10240]⟩ : Shape).Idx → BitVec 8)
    (C : (⟨2, ![112, 10240]⟩ : Shape).Idx → BitVec 8) (G : (⟨2, ![112, 40]⟩ : Shape).Idx → EReal) (O : (⟨0, ![]⟩ : Shape).Idx → EReal)
    (i : grid0.Coords) (t : Fin 20) (hi : (i 0).val = t.val)
    (x0 : Vec Ideal S192x7168 .bf16) (x1 : Vec Ideal S3584x512 .i8) (x2 : Vec Ideal S112x512 .i8) (x3 : Vec Ideal S112x40 .f32)
    (x4 : Vec Ideal S1x1 .f32) (x5 : Vec Ideal S2x32x128 .i8)
    (h0 : ∀ (r : Fin 192) (p : Fin 7168), x0 (ix2 r p) = X (ix3 r 0 ⟨64 * (p.val / 64) + 4 * (p.val % 16) + p.val % 64 / 16, by omega⟩))
    (h1 : ∀ (j : Fin 3584) (q : Fin 512), x1 (ix2 j q) = W (ix2 j ⟨512 * t.val + q.val, by omega⟩))
    (h2 : ∀ (b : Fin 112) (q : Fin 512), x2 (ix2 b q) = C (ix2 b ⟨512 * t.val + q.val, by omega⟩))
    (h3 : ∀ (b : Fin 112) (k : Fin 40), x3 (ix2 b k) = G (ix2 b k))
    (h4 : x4 (ix2 0 0) = O ix0)
    (h5 : ∀ (z : Fin 2) (r : Fin 32) (l : Fin 128), x5 (ix3 z r l) = Cert.KernelIdeal.lit0 ⟨4096 * z.val + 128 * r.val + l.val, by omega⟩)
    (r : Fin 192) (q : Fin 512) : outV i x0 x1 x2 x3 x4 x5 (ix2 r q) = specOut X W C G O r ⟨512 * t.val + q.val, by omega⟩ := by
  have ht : Tables (tabV0 (F := Ideal) x5) (tabV1 (F := Ideal) x5) := by
    intro n l
    rw [tabV0_at, tabV1_at, h5, h5, ← lit_word n l]
    congr 2
    refine Fin.ext ?_
    show 4096 * 0 + 128 * n.val + l.val = 128 * n.val + l.val
    omega
  show accV x0 x1 (amV i x2 x3 x4) _ _ oddMask nSteps nSteps_le (ix2 r q) = _
  rw [acc_at ht, nSteps_eq]
  unfold specOut
  refine Finset.sum_congr rfl fun c hc => ?_
  have hc' : c < 7168 := Finset.mem_range.mp hc
  unfold kTerm specTerm
  rw [dif_pos hc', dif_pos hc', h0, amV_at i x2 x3 x4 t hi, h2, h3, h4]
  unfold lev specLevel specAm
  rw [h1]
  have e1 : 64 * ((64 * (c / 64) + 16 * (c % 4) + c % 64 / 4) / 64) + 4 * ((64 * (c / 64) + 16 * (c % 4) + c % 64 / 4) % 16)
      + (64 * (c / 64) + 16 * (c % 4) + c % 64 / 4) % 64 / 16 = c := by
    have a1 : (64 * (c / 64) + 16 * (c % 4) + c % 64 / 4) / 64 = c / 64 := by omega
    have a2 : (64 * (c / 64) + 16 * (c % 4) + c % 64 / 4) % 16 = c % 64 / 4 := by omega
    have a3 : (64 * (c / 64) + 16 * (c % 4) + c % 64 / 4) % 64 / 16 = c % 4 := by omega
    rw [a1, a2, a3]; omega
  have e2 : 128 * (q.val / 128) + q.val % 128 = q.val := by omega
  have e3 : 2 * t.val + q.val / 128 / 2 = (512 * t.val + q.val) / 256 := by omega
  simp only [e1, e2, e3]

end Cert.Proof
-- ==== Proof.Value.lean ====
/-
  The kernel's result array as the layer's value, in exact arithmetic.
-/
module

public import proofs.«01_k».proof.Proof.Run
public import proofs.«01_k».proof.Proof.KernelValue
public import Idealize.ShloMosaic.Lib.Claim
public import Idealize.ShloMosaic.Lib.StableHlo.ReadAt
public import Idealize.ShloMosaic.Lib.Pipeline.ValueKit.Geometry

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

/-! ## The arguments, and the buffers computed before the kernel -/

/-- The activations, the packed weights, the scale codes, the group scales and the offset. -/
abbrev kX (c : Dev nD) : (⟨3, ![192, 1, 7168]⟩ : Shape).Idx → EReal := m ((c : Thread nD τ).loc main_arg0)
abbrev kW (c : Dev nD) : (⟨2, ![3584, 10240]⟩ : Shape).Idx → BitVec 8 := m ((c : Thread nD τ).loc main_arg1)
abbrev kC (c : Dev nD) : (⟨2, ![112, 10240]⟩ : Shape).Idx → BitVec 8 := m ((c : Thread nD τ).loc main_arg2)
abbrev kG (c : Dev nD) : (⟨2, ![112, 40]⟩ : Shape).Idx → EReal := m ((c : Thread nD τ).loc main_arg3)
abbrev kO (c : Dev nD) : (⟨0, ![]⟩ : Shape).Idx → EReal := m ((c : Thread nD τ).loc main_arg4)

/-- The activations with each block of 64 columns regrouped by their remainder modulo 4. -/
theorem v2_at (c : Dev nD) (r : Fin 192) (p : Fin 7168) : V m c main_v2 (ix2 r p)
    = kX m c (ix3 r 0 ⟨64 * (p.val / 64) + 4 * (p.val % 16) + p.val % 64 / 16, by omega⟩) := by
  unfold V V0
  after_reads_at
  show kX m c _ = _
  refine congrArg (fun k : Fin 7168 => kX m c (ix3 r 0 k)) (Fin.ext ?_)
  show p.val / 64 * 64 + p.val % 16 * 4 + p.val / 16 % 4 = 64 * (p.val / 64) + 4 * (p.val % 16) + p.val % 64 / 16
  have a : p.val / 16 % 4 = p.val % 64 / 16 := by omega
  omega

/-- The offset as a 1x1 array. -/
theorem v3_at (c : Dev nD) : V m c main_v3 (ix2 0 0) = kO m c ix0 := by
  unfold V V0
  after_reads_at

/-- The byte tables are the printed literal. -/
theorem c_at (c : Dev nD) (z : Fin 2) (r : Fin 32) (l : Fin 128) : V m c main_c (ix3 z r l)
    = Cert.KernelIdeal.lit0 ⟨4096 * z.val + 128 * r.val + l.val, by omega⟩ := by
  unfold V V0
  after_reads_at
  refine congrArg lit0 (Fin.ext ?_)
  refine (rowMajor_val3 (ix3 z r l) 4096 128 rfl rfl).trans ?_
  show z.val * 4096 + r.val * 128 + l.val = 4096 * z.val + 128 * r.val + l.val
  omega

/-! ## The blocks -/

/-- The grid point's coordinate, and each window's block index there. -/
theorem pos_at : ∀ t : Fin cfg0.N, (cfg0.grid.coords t (0 : Fin 1)).val = t.val := (by decide +kernel : ∀ t : Fin grid0.N, _)
theorem at0 : ∀ t : Fin cfg0.N, win0_0.index t (0 : Fin 2) = 0 ∧ win0_0.index t (1 : Fin 2) = 0 := (by decide +kernel : ∀ t : Fin grid0.N, _)
theorem at1 : ∀ t : Fin cfg0.N, win0_1.index t (0 : Fin 2) = 0 ∧ win0_1.index t (1 : Fin 2) = t.val := (by decide +kernel : ∀ t : Fin grid0.N, _)
theorem at2 : ∀ t : Fin cfg0.N, win0_2.index t (0 : Fin 2) = 0 ∧ win0_2.index t (1 : Fin 2) = t.val := (by decide +kernel : ∀ t : Fin grid0.N, _)
theorem at3 : ∀ t : Fin cfg0.N, win0_3.index t (0 : Fin 2) = 0 ∧ win0_3.index t (1 : Fin 2) = 0 := (by decide +kernel : ∀ t : Fin grid0.N, _)
theorem at4 : ∀ t : Fin cfg0.N, win0_4.index t (0 : Fin 2) = 0 ∧ win0_4.index t (1 : Fin 2) = 0 := (by decide +kernel : ∀ t : Fin grid0.N, _)
theorem at5 : ∀ t : Fin cfg0.N, win0_5.index t (0 : Fin 3) = 0 ∧ win0_5.index t (1 : Fin 3) = 0 ∧ win0_5.index t (2 : Fin 3) = 0 :=
  (by decide +kernel : ∀ t : Fin grid0.N, _)
theorem at6 : ∀ t : Fin cfg0.N, win0_6.index t (0 : Fin 2) = 0 ∧ win0_6.index t (1 : Fin 2) = t.val := (by decide +kernel : ∀ t : Fin grid0.N, _)

/-- There are twenty grid points. -/
theorem lt20 (t : Fin cfg0.N) : t.val < 20 := t.isLt

/-- Every point reads all the activations. -/
theorem iblk0_at (c : Dev nD) (t : Fin cfg0.N) (r : Fin 192) (p : Fin 7168) : (iblk m c 0 t : Vec Ideal S192x7168 .bf16) (ix2 r p) = V m c main_v2 (ix2 r p) := by
  obtain ⟨e0, e1⟩ := at0 t
  show V m c main_v2 (((cfg0.win 0).blk t).view.emb (ix2 r p)) = _
  refine congrArg (V m c main_v2) (funext fun a => Fin.ext ?_)
  match a with
  | ⟨0, _⟩ => show win0_0.index t (0 : Fin 2) * 192 + 1 * r.val = r.val; omega
  | ⟨1, _⟩ => show win0_0.index t (1 : Fin 2) * 7168 + 1 * p.val = p.val; omega

/-- Point `t` reads 512 columns of packed weights, from column `512 t`. -/
theorem iblk1_at (c : Dev nD) (t : Fin cfg0.N) (j : Fin 3584) (q : Fin 512) : (iblk m c 1 t : Vec Ideal S3584x512 .i8) (ix2 j q)
    = kW m c (ix2 j ⟨512 * t.val + q.val, by have := lt20 t; omega⟩) := by
  obtain ⟨e0, e1⟩ := at1 t
  refine Eq.trans ?_ (congrFun (V_main_arg1 m c) _)
  show V m c main_arg1 (((cfg0.win 1).blk t).view.emb (ix2 j q)) = _
  refine congrArg (V m c main_arg1) (funext fun a => Fin.ext ?_)
  match a with
  | ⟨0, _⟩ => show win0_1.index t (0 : Fin 2) * 3584 + 1 * j.val = j.val; omega
  | ⟨1, _⟩ => show win0_1.index t (1 : Fin 2) * 512 + 1 * q.val = 512 * t.val + q.val; omega

/-- Point `t` reads 512 columns of scale codes, from column `512 t`. -/
theorem iblk2_at (c : Dev nD) (t : Fin cfg0.N) (b : Fin 112) (q : Fin 512) : (iblk m c 2 t : Vec Ideal S112x512 .i8) (ix2 b q)
    = kC m c (ix2 b ⟨512 * t.val + q.val, by have := lt20 t; omega⟩) := by
  obtain ⟨e0, e1⟩ := at2 t
  refine Eq.trans ?_ (congrFun (V_main_arg2 m c) _)
  show V m c main_arg2 (((cfg0.win 2).blk t).view.emb (ix2 b q)) = _
  refine congrArg (V m c main_arg2) (funext fun a => Fin.ext ?_)
  match a with
  | ⟨0, _⟩ => show win0_2.index t (0 : Fin 2) * 112 + 1 * b.val = b.val; omega
  | ⟨1, _⟩ => show win0_2.index t (1 : Fin 2) * 512 + 1 * q.val = 512 * t.val + q.val; omega

/-- Every point reads all the group scales. -/
theorem iblk3_at (c : Dev nD) (t : Fin cfg0.N) (b : Fin 112) (k : Fin 40) : (iblk m c 3 t : Vec Ideal S112x40 .f32) (ix2 b k) = kG m c (ix2 b k) := by
  obtain ⟨e0, e1⟩ := at3 t
  refine Eq.trans ?_ (congrFun (V_main_arg3 m c) _)
  show V m c main_arg3 (((cfg0.win 3).blk t).view.emb (ix2 b k)) = _
  refine congrArg (V m c main_arg3) (funext fun a => Fin.ext ?_)
  match a with
  | ⟨0, _⟩ => show win0_3.index t (0 : Fin 2) * 112 + 1 * b.val = b.val; omega
  | ⟨1, _⟩ => show win0_3.index t (1 : Fin 2) * 40 + 1 * k.val = k.val; omega

/-- Every point reads the offset. -/
theorem iblk4_at (c : Dev nD) (t : Fin cfg0.N) : (iblk m c 4 t : Vec Ideal S1x1 .f32) (ix2 0 0) = V m c main_v3 (ix2 0 0) := by
  obtain ⟨e0, e1⟩ := at4 t
  show V m c main_v3 (((cfg0.win 4).blk t).view.emb (ix2 0 0)) = _
  refine congrArg (V m c main_v3) (funext fun a => Fin.ext ?_)
  match a with
  | ⟨0, _⟩ => show win0_4.index t (0 : Fin 2) * 1 + 1 * 0 = 0; omega
  | ⟨1, _⟩ => show win0_4.index t (1 : Fin 2) * 1 + 1 * 0 = 0; omega

/-- Every point reads both byte tables. -/
theorem iblk5_at (c : Dev nD) (t : Fin cfg0.N) (z : Fin 2) (r : Fin 32) (l : Fin 128) :
    (iblk m c 5 t : Vec Ideal S2x32x128 .i8) (ix3 z r l) = V m c main_c (ix3 z r l) := by
  obtain ⟨e0, e1, e2⟩ := at5 t
  show V m c main_c (((cfg0.win 5).blk t).view.emb (ix3 z r l)) = _
  refine congrArg (V m c main_c) (funext fun a => Fin.ext ?_)
  match a with
  | ⟨0, _⟩ => show win0_5.index t (0 : Fin 3) * 2 + 1 * z.val = z.val; omega
  | ⟨1, _⟩ => show win0_5.index t (1 : Fin 3) * 32 + 1 * r.val = r.val; omega
  | ⟨2, _⟩ => show win0_5.index t (2 : Fin 3) * 128 + 1 * l.val = l.val; omega

/-- Point `t` writes 512 columns of the result, from column `512 t`. -/
theorem emb6 (t : Fin cfg0.N) (r : Fin 192) (q : Fin 512) : (((cfg0.win 6).blk t).view.emb (ix2 r q) : S192x10240.Idx)
    = ix2 r ⟨512 * t.val + q.val, by have := lt20 t; omega⟩ := by
  obtain ⟨e0, e1⟩ := at6 t
  refine funext fun a => Fin.ext ?_
  match a with
  | ⟨0, _⟩ => show win0_6.index t (0 : Fin 2) * 192 + 1 * r.val = r.val; omega
  | ⟨1, _⟩ => show win0_6.index t (1 : Fin 2) * 512 + 1 * q.val = 512 * t.val + q.val; omega

/-! ## The result -/

/-- The result array of the kernel. -/
def kOut (c : Dev nD) : Vec Ideal S192x10240 .bf16 := fun i => specOut (kX m c) (kW m c) (kC m c) (kG m c) (kO m c) (i 0) (i 1)

/-- Point `t` leaves the layer's value in its output block. -/
theorem after6_at (c : Dev nD) (t : Fin cfg0.N) (r : Fin 192) (q : Fin 512) :
    outV (F := Ideal) (grid0.coords t) (iblk m c 0 t) (iblk m c 1 t) (iblk m c 2 t) (iblk m c 3 t) (iblk m c 4 t) (iblk m c 5 t) (ix2 r q)
      = specOut (kX m c) (kW m c) (kC m c) (kG m c) (kO m c) r ⟨512 * t.val + q.val, by have := lt20 t; omega⟩ :=
  out_at (kX m c) (kW m c) (kC m c) (kG m c) (kO m c) (grid0.coords t) t (pos_at t) _ _ _ _ _ _
    (fun r p => (iblk0_at m c t r p).trans (v2_at m c r p)) (iblk1_at m c t) (iblk2_at m c t) (iblk3_at m c t)
    ((iblk4_at m c t).trans (v3_at m c)) (fun z r l => (iblk5_at m c t z r l).trans (c_at m c z r l)) r q

/-- What point `t` writes back is its block of the layer's value. -/
theorem flushed6 (c : Dev nD) (t : Fin cfg0.N) : (dats m 0 c).flushed 6 t = ((cfg0.win 6).blk t).view.read (Elt Ideal) (kOut m c) := by
  funext j
  obtain ⟨r, q, rfl⟩ : ∃ (r : Fin 192) (q : Fin 512), j = ix2 r q := ⟨j 0, j 1, funext fun a => by match a with | ⟨0, _⟩ => rfl | ⟨1, _⟩ => rfl⟩
  show (dats m 0 c).after 6 t (ix2 r q) = kOut m c (((cfg0.win 6).blk t).view.emb (ix2 r q))
  rw [after0_6, after6_at, emb6]
  rfl

/-- Every index of the result array is in some point's block. -/
theorem covered6 (i : S192x10240.Idx) : ∃ t : Fin cfg0.N, (cfg0.win 6).flush t = true ∧ i ∈ ((cfg0.win 6).blk t).view.set := by
  have h1 : (i 1).val < 10240 := (i 1).isLt
  have hb : (i 1).val / 512 < 20 := by omega
  obtain ⟨t, ht⟩ : ∃ t : Fin cfg0.N, t.val = (i 1).val / 512 := ⟨⟨(i 1).val / 512, hb⟩, rfl⟩
  refine ⟨t, flush0_6 t, ?_⟩
  have h := ((cfg0.win 6).blk t).view.emb_mem_set (ix2 (i 0 : Fin 192) (⟨(i 1).val % 512, by omega⟩ : Fin 512))
  have e : ((cfg0.win 6).blk t).view.emb (ix2 (i 0 : Fin 192) (⟨(i 1).val % 512, by omega⟩ : Fin 512)) = i :=
    (emb6 t (i 0) ⟨(i 1).val % 512, by omega⟩).trans (funext fun a => by
      match a with
      | ⟨0, _⟩ => rfl
      | ⟨1, _⟩ => exact Fin.ext (show 512 * t.val + (i 1).val % 512 = (i 1).val by omega))
  rw [e] at h
  exact h

/-- After the run the result array is the layer's value. -/
theorem final6 (c : Dev nD) : (dats m 0 c).arrAt 6 cfg0.N = kOut m c :=
  (dats m 0 c).arrAt_eq_of_cover 6 (kOut m c) (fun t _ => flushed6 m c t) covered6

/-- The result as the caller gets it: the array read in three dimensions. -/
def kRes (c : Dev nD) : Vec Ideal S192x1x10240 .bf16 := fun i => specOut (kX m c) (kW m c) (kC m c) (kG m c) (kO m c) (i 0) (i 2)

/-- The last reshape leaves the layer's value as the result. -/
theorem tail5 (c : Dev nD) : Pipeline.afterTail₀ cfgs (dats m) 0 (V0 m) [hostOps1] c main_v5 = kRes m c := by
  have hA : Pipeline.withArrays spec0 c (V0 m c) (fun w => (dats m 0 c).arrAt w cfg0.N) (Proc.devRef .tc main_v4) = kOut m c :=
    (Pipeline.withArrays_arr spec0 (by decide) c (V0 m c) (fun w => (dats m 0 c).arrAt w cfg0.N) 6).trans (final6 m c)
  unfold Pipeline.afterTail₀
  show StableHlo.after (List.flatten [hostOps1]) (Pipeline.withArrays spec0 c (V0 m c) (fun w => (dats m 0 c).arrAt w cfg0.N)) (Proc.devRef .tc main_v5) = _
  generalize Pipeline.withArrays spec0 c (V0 m c) (fun w => (dats m 0 c).arrAt w cfg0.N) = U at hA ⊢
  funext i
  obtain ⟨r, z, q, rfl⟩ : ∃ (r : Fin 192) (z : Fin 1) (q : Fin 10240), i = ix3 r z q :=
    ⟨i 0, i 1, i 2, funext fun a => by match a with | ⟨0, _⟩ => rfl | ⟨1, _⟩ => rfl | ⟨2, _⟩ => rfl⟩
  after_reads_at
  exact congrFun hA (ix2 r q)

/-- The run leaves the layer's value and the arguments as they were. -/
theorem run_value : θ_run defs (onTc (τ := τ) (main (F := Ideal))) ⟨m, fun _ => 0, ρ⟩ (fun r => ∀ c : Dev nD,
      r.2.mem ((c.tc : Thread nD τ).loc main_v5) = kRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.2.1 c).2 main_v5 (Pipeline.mem_restRefs_of main_v5 (by decide) (by decide))).trans (tail5 m c), h.1 c⟩)
    (θ_run_and (unchanged m ρ) (run_post m ρ))

end Cert.Proof

end
-- ==== Proof.RefValue.lean ====
/-
  The reference's result at an index.
-/
module

public import proofs.«01_k».proof.Proof.Spec
public import proofs.«01_k».proof.Proof.Gen.ReferenceIdeal.Run

@[expose] public section

set_option maxRecDepth 16384

noncomputable section

namespace Cert.Proof.Ref

open Idealize.ShloMosaic
open Cert.ReferenceIdeal Cert.ReferenceIdeal.Gen Cert.ReferenceIdeal.Value Idealize.ShloMosaic.TcCoe

/-- One bit of every nibble. -/
def bitOf (q : IVec S3584x5120 32) (s : BitVec 32) : IVec S3584x5120 1 :=
  id (cmpi .ne (andi (Host.shrsi q (broadcastInDim S3584x5120 ![] bcast_S_S3584x5120 (constantI S_ 32 s)))
    (broadcastInDim S3584x5120 ![] bcast_S_S3584x5120 (constantI S_ 32 1#32))) (broadcastInDim S3584x5120 ![] bcast_S_S3584x5120 (constantI S_ 32 0#32)))

/-- A level everywhere. -/
def level (b : BitVec 16) : FVec Ideal S3584x5120 .bf16 := broadcastInDim S3584x5120 ![] bcast_S_S3584x5120 (constant S_ .bf16 b)

/-- The levels of the nibbles, picked bit by bit. -/
def levels (q : IVec S3584x5120 32) : FVec Ideal S3584x5120 .bf16 :=
  (select (bitOf q 3#32) (select (bitOf q 2#32) (select (bitOf q 1#32) (select (bitOf q 0#32) (level 0x3F80#16) (level 0x3F39#16)) (select (bitOf q 0#32) (level 0x3F10#16) (level 0x3EE2#16))) (select (bitOf q 1#32) (select (bitOf q 0#32) (level 0x3EAD#16) (level 0x3E7C#16)) (select (bitOf q 0#32) (level 0x3E25#16) (level 0x3DA3#16)))) (select (bitOf q 2#32) (select (bitOf q 1#32) (select (bitOf q 0#32) (level 0x0000#16) (level 0xBDBA#16)) (select (bitOf q 0#32) (level 0xBE3D#16) (level 0xBE92#16))) (select (bitOf q 1#32) (select (bitOf q 0#32) (level 0xBECA#16) (level 0xBF06#16)) (select (bitOf q 0#32) (level 0xBF32#16) (level 0xBF80#16)))))

/-- The weights of one nibble of every byte row. -/
def weights (q : IVec S3584x5120 32) (am : FVec Ideal S112x5120 .bf16) : FVec Ideal S3584x5120 .bf16 :=
  shapeCast _ (mulf (shapeCast _ (levels q) shapeCasts_S3584x5120_S112x32x5120) (broadcastInDim S112x32x5120 ![0, 1, 2] bcast_S112x1x5120_S112x32x5120_0_1_2
    (broadcastInDim S112x1x5120 ![0, 2] bcast_S112x5120_S112x1x5120_0_2 am))) shapeCasts_S112x32x5120_S3584x5120

/-- Half of the columns. -/
def half (xe xo : FVec Ideal S192x3584 .bf16) (qh ql : IVec S3584x5120 32) (am : FVec Ideal S112x5120 .bf16) : FVec Ideal S192x5120 .f32 :=
  addf (Host.dotGeneral dot_S192x3584_S3584x5120_S192x5120_1_0_0_1_n_n none xe (weights qh am))
    (Host.dotGeneral dot_S192x3584_S3584x5120_S192x5120_1_0_0_1_n_n none xo (weights ql am))

/-- The left half of the result before the cast. -/
theorem v120_eq (V0 : Valuation τ sig (Elt Ideal)) : res_main_v120 V0
    = half (res_main_v10 V0) (res_main_v12 V0) (res_main_v19 V0) (res_main_v69 V0) (res_main_v15 V0) := rfl

/-- The right half of the result before the cast. -/
theorem v229_eq (V0 : Valuation τ sig (Elt Ideal)) : res_main_v229 V0
    = half (res_main_v10 V0) (res_main_v12 V0) (res_main_v128 V0) (res_main_v178 V0) (res_main_v124 V0) := rfl

/-- One bit of a word. -/
def bitW (q s : BitVec 32) : BitVec 1 := IntOp.cmpi .ne (IntOp.andi (IntOp.shrsi .host q s) 1#32) 0#32

/-- A bit of every nibble, at an index. -/
theorem bitOf_at (q : IVec S3584x5120 32) (s : BitVec 32) (i : S3584x5120.Idx) : bitOf q s i = bitW (q i) s := rfl

/-- A level everywhere, at an index. -/
theorem level_at (b : BitVec 16) (i : S3584x5120.Idx) : level b i = Ideal.ofBits .bf16 b := rfl

/-- The bits of a nibble are its binary digits. -/
theorem bitW_vals : ∀ n : Fin 16, ∀ s : Fin 4, bitW (BitVec.ofNat 32 n.val) (BitVec.ofNat 32 s.val) = BitVec.ofBool (n.val.testBit s.val) := by decide

/-- Picking bit by bit finds the level of the nibble. -/
theorem levels_at (q : IVec S3584x5120 32) (i : S3584x5120.Idx) (n : Fin 16) (hn : q i = BitVec.ofNat 32 n.val) : levels q i = nf4 n := by
  have b3 : bitOf q 3#32 i = BitVec.ofBool (n.val.testBit 3) := by rw [bitOf_at, hn]; exact bitW_vals n 3
  have b2 : bitOf q 2#32 i = BitVec.ofBool (n.val.testBit 2) := by rw [bitOf_at, hn]; exact bitW_vals n 2
  have b1 : bitOf q 1#32 i = BitVec.ofBool (n.val.testBit 1) := by rw [bitOf_at, hn]; exact bitW_vals n 1
  have b0 : bitOf q 0#32 i = BitVec.ofBool (n.val.testBit 0) := by rw [bitOf_at, hn]; exact bitW_vals n 0
  have sel : ∀ (c : IVec S3584x5120 1) (a b : FVec Ideal S3584x5120 .bf16), select c a b i = if c i = 1 then a i else b i := fun _ _ _ => rfl
  unfold levels
  simp only [sel, b3, b2, b1, b0, level_at]
  unfold nf4
  fin_cases n <;> rfl

/-- The high nibble of a byte, computed on 32 bits. -/
theorem hi_ext : ∀ i : Fin 256, IntOp.andi (IntOp.shrsi .host ((BitVec.ofFin i : BitVec 8).setWidth 32) 4#32) 15#32
    = BitVec.ofNat 32 (hiN (BitVec.ofFin i)).val := by decide +kernel
/-- The low nibble of a byte, computed on 32 bits. -/
theorem lo_ext : ∀ i : Fin 256, IntOp.andi ((BitVec.ofFin i : BitVec 8).setWidth 32) 15#32
    = BitVec.ofNat 32 (loN (BitVec.ofFin i)).val := by decide +kernel

/-- A weight is its level times its block's scale. -/
theorem weights_at (q : IVec S3584x5120 32) (am : FVec Ideal S112x5120 .bf16) (j : Fin 3584) (c : Fin 5120) (n : Fin 16)
    (hn : q (ix2 j c) = BitVec.ofNat 32 n.val) : weights q am (ix2 j c) = nf4 n * am (ix2 ⟨j.val / 32, by omega⟩ c) := by
  pointwise [weights]
  rw [levels_at q (ix2 j c) n hn]

/-- Half of the result is two products over the byte rows. -/
theorem half_at (xe xo : FVec Ideal S192x3584 .bf16) (qh ql : IVec S3584x5120 32) (am : FVec Ideal S112x5120 .bf16) (r : Fin 192) (c : Fin 5120) :
    half xe xo qh ql am (ix2 r c) = (∑ j : Fin 3584, xe (ix2 r j) * weights qh am (ix2 j c)) + ∑ j : Fin 3584, xo (ix2 r j) * weights ql am (ix2 j c) := by
  pointwise [half]

section Args

variable (V0 : Valuation τ sig (Elt Ideal))

/-- The arguments. -/
abbrev aX : S192x1x7168.Idx → EReal := V0 (Proc.devRef .tc main_arg0)
abbrev aW : S3584x10240.Idx → BitVec 8 := V0 (Proc.devRef .tc main_arg1)
abbrev aC : S112x10240.Idx → BitVec 8 := V0 (Proc.devRef .tc main_arg2)
abbrev aG : S112x40.Idx → EReal := V0 (Proc.devRef .tc main_arg3)
abbrev aO : S_.Idx → EReal := V0 (Proc.devRef .tc main_arg4)

/-- The activations at the even places. -/
theorem v10_at (r : Fin 192) (j : Fin 3584) : res_main_v10 V0 (ix2 r j) = aX V0 (ix3 r 0 ⟨2 * j.val, by omega⟩) := by
  pointwise [res_main_v10, res_main_v8]
  refine congrArg (fun c : Fin 7168 => aX V0 (ix3 r 0 c)) (Fin.ext ?_)
  show j.val * 2 = 2 * j.val
  omega

/-- The activations at the odd places. -/
theorem v12_at (r : Fin 192) (j : Fin 3584) : res_main_v12 V0 (ix2 r j) = aX V0 (ix3 r 0 ⟨2 * j.val + 1, by omega⟩) := by
  pointwise [res_main_v12, res_main_v8]
  refine congrArg (fun c : Fin 7168 => aX V0 (ix3 r 0 c)) (Fin.ext ?_)
  show j.val * 2 + 1 = 2 * j.val + 1
  omega

/-- A scale is its code times its group's scale, plus the offset. -/
theorem v7_at (b : Fin 112) (c : Fin 10240) : res_main_v7 V0 (ix2 b c) = specAm (aC V0) (aG V0) (aO V0) b c := by
  pointwise [res_main_v7, specAm]
  show (((BitVec.signExtend 32 (aC V0 (ix2 b c))).toInt : ℝ) : EReal) * _ + _ = _
  rw [BitVec.toInt_signExtend_of_le (by decide)]

/-- The scales of the left columns. -/
theorem v15_at (b : Fin 112) (c : Fin 5120) : res_main_v15 V0 (ix2 b c) = specAm (aC V0) (aG V0) (aO V0) b ⟨c.val, by omega⟩ := by
  rw [← v7_at]
  pointwise [res_main_v15]

/-- The scales of the right columns. -/
theorem v124_at (b : Fin 112) (c : Fin 5120) : res_main_v124 V0 (ix2 b c) = specAm (aC V0) (aG V0) (aO V0) b ⟨5120 + c.val, by omega⟩ := by
  rw [← v7_at]
  pointwise [res_main_v124]

/-- The high nibbles of the left columns. -/
theorem v19_at (j : Fin 3584) (c : Fin 5120) : res_main_v19 V0 (ix2 j c) = BitVec.ofNat 32 (hiN (aW V0 (ix2 j ⟨c.val, by omega⟩))).val := by
  refine Eq.trans ?_ (hi_ext (aW V0 (ix2 j ⟨c.val, by omega⟩)).toFin)
  pointwise [res_main_v19, res_main_v14]
  rfl

/-- The low nibbles of the left columns. -/
theorem v69_at (j : Fin 3584) (c : Fin 5120) : res_main_v69 V0 (ix2 j c) = BitVec.ofNat 32 (loN (aW V0 (ix2 j ⟨c.val, by omega⟩))).val := by
  refine Eq.trans ?_ (lo_ext (aW V0 (ix2 j ⟨c.val, by omega⟩)).toFin)
  pointwise [res_main_v69, res_main_v14]
  rfl

/-- The high nibbles of the right columns. -/
theorem v128_at (j : Fin 3584) (c : Fin 5120) : res_main_v128 V0 (ix2 j c) = BitVec.ofNat 32 (hiN (aW V0 (ix2 j ⟨5120 + c.val, by omega⟩))).val := by
  refine Eq.trans ?_ (hi_ext (aW V0 (ix2 j ⟨5120 + c.val, by omega⟩)).toFin)
  pointwise [res_main_v128, res_main_v123]
  rfl

/-- The low nibbles of the right columns. -/
theorem v178_at (j : Fin 3584) (c : Fin 5120) : res_main_v178 V0 (ix2 j c) = BitVec.ofNat 32 (loN (aW V0 (ix2 j ⟨5120 + c.val, by omega⟩))).val := by
  refine Eq.trans ?_ (lo_ext (aW V0 (ix2 j ⟨5120 + c.val, by omega⟩)).toFin)
  pointwise [res_main_v178, res_main_v123]
  rfl

/-- The left columns hold the layer's value. -/
theorem v120_at (r : Fin 192) (c : Fin 5120) : res_main_v120 V0 (ix2 r c)
    = specOut (aX V0) (aW V0) (aC V0) (aG V0) (aO V0) r ⟨c.val, by omega⟩ := by
  rw [v120_eq, half_at, specOut_halves]
  refine congrArg₂ (· + ·) (Finset.sum_congr rfl fun j _ => ?_) (Finset.sum_congr rfl fun j _ => ?_)
  · rw [v10_at, weights_at _ _ j c _ (v19_at V0 j c), v15_at]
  · rw [v12_at, weights_at _ _ j c _ (v69_at V0 j c), v15_at]

/-- The right columns hold the layer's value. -/
theorem v229_at (r : Fin 192) (c : Fin 5120) : res_main_v229 V0 (ix2 r c)
    = specOut (aX V0) (aW V0) (aC V0) (aG V0) (aO V0) r ⟨5120 + c.val, by omega⟩ := by
  rw [v229_eq, half_at, specOut_halves]
  refine congrArg₂ (· + ·) (Finset.sum_congr rfl fun j _ => ?_) (Finset.sum_congr rfl fun j _ => ?_)
  · rw [v10_at, weights_at _ _ j c _ (v128_at V0 j c), v124_at]
  · rw [v12_at, weights_at _ _ j c _ (v178_at V0 j c), v124_at]

/-- The reference's result. -/
def refOut : FVec Ideal S192x1x10240 .bf16 :=
  shapeCast _ (concatenate S192x10240 1 [⟨S192x5120, (truncf .bf16 (res_main_v120 V0) bitsLt_bf16_f32)⟩,
    ⟨S192x5120, (truncf .bf16 (res_main_v229 V0) bitsLt_bf16_f32)⟩] concatenates_S192x5120_S192x5120_S192x10240_d1) shapeCasts_S192x10240_S192x1x10240

/-- The reference's result is the layer's value at every index. -/
theorem refOut_at (r : Fin 192) (z : Fin 1) (c : Fin 10240) : refOut V0 (ix3 r z c)
    = specOut (aX V0) (aW V0) (aC V0) (aG V0) (aO V0) r c := by
  pointwise [refOut]
  by_cases h : c.val < 5120
  · rw [dif_pos h, v120_at]
  · rw [dif_neg h, v229_at]
    refine congrArg (specOut (aX V0) (aW V0) (aC V0) (aG V0) (aO V0) r) (Fin.ext ?_)
    show 5120 + (c.val - 5120) = c.val
    omega

end Args

end Cert.Proof.Ref
-- ==== Proof.Algebraic.lean ====
/-
  The kernel and the reference end with one result.
-/
module

public import proofs.«01_k».proof.Defs
public import proofs.«01_k».proof.Proof.Value
public import proofs.«01_k».proof.Proof.RefValue

@[expose] public section

noncomputable section

namespace Cert.Proof

open Idealize.ShloMosaic Idealize.ShloMosaic.TcCoe Idealize.SL.Sem

/-- The kernel and the reference, on the same arguments, both end with the layer's value. -/
theorem algebraic_KR : Cert.algebraic_KernelIdeal_ReferenceIdeal (hKernelIdeal := Cert.KernelIdeal.Gen.facts)
    (hReferenceIdeal := Cert.ReferenceIdeal.Gen.facts) := by
  letI := Cert.KernelIdeal.Gen.facts
  letI := Cert.ReferenceIdeal.Gen.facts
  intro m g m' g' _ hm
  refine ⟨fun c => kRes m c, run_value m g, ?_⟩
  refine (θ_run Cert.ReferenceIdeal.defs _ _).mono (fun r h c => ⟨(h c).1.trans ?_, (h c).2⟩) (Cert.ReferenceIdeal.Value.run (F := Ideal) m' g')
  obtain ⟨h0, h1, h2, h3, h4⟩ := hm c
  have e0 : Ref.aX (StableHlo.launchContents m' c) = kX m c := h0
  have e1 : Ref.aW (StableHlo.launchContents m' c) = kW m c := h1
  have e2 : Ref.aC (StableHlo.launchContents m' c) = kC m c := h2
  have e3 : Ref.aG (StableHlo.launchContents m' c) = kG m c := h3
  have e4 : Ref.aO (StableHlo.launchContents m' c) = kO m c := h4
  have key : Ref.refOut (StableHlo.launchContents m' c) = kRes m c := by
    funext i
    obtain ⟨r, z, q, rfl⟩ : ∃ (r : Fin 192) (z : Fin 1) (q : Fin 10240), i = ix3 r z q :=
      ⟨i 0, i 1, i 2, funext fun a => by match a with | ⟨0, _⟩ => rfl | ⟨1, _⟩ => rfl | ⟨2, _⟩ => rfl⟩
    rw [Ref.refOut_at, e0, e1, e2, e3, e4]
    rfl
  exact key

end Cert.Proof

end
-- ==== Proof.lean ====
module

public import proofs.«01_k».proof.Defs
public import proofs.«01_k».proof.Proof.KernelFrame
public import proofs.«01_k».proof.Proof.Algebraic

@[expose] public section

noncomputable section

namespace Cert.Proof

open Idealize.ShloMosaic Idealize.SL.Sem

/-- The reference ends with its arguments as they were and every semaphore counter at zero: it declares no semaphore. -/
theorem frame_ref [Cert.ReferenceIdeal.Facts] : Cert.quiescent_ReferenceIdeal := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Every claim of the certificate. -/
theorem claim : Cert.Claim := ⟨Cert.Kernel.Gen.facts, Cert.KernelIdeal.Gen.facts, Cert.ReferenceIdeal.Gen.facts,
  frame_K, fun m ρ _ => frame_KI m ρ,
  letI := Cert.ReferenceIdeal.Gen.facts; frame_ref, trivial, algebraic_KR⟩

end Cert.Proof

end
